-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32768x3 : Shape := ⟨2, ![32768, 3]⟩
abbrev S32768x128 : Shape := ⟨2, ![32768, 128]⟩
abbrev S16 : Shape := ⟨1, ![16]⟩
abbrev S1280x128 : Shape := ⟨2, ![1280, 128]⟩
abbrev S128 : Shape := ⟨1, ![128]⟩
abbrev S128x128 : Shape := ⟨2, ![128, 128]⟩
abbrev S16x1024 : Shape := ⟨2, ![16, 1024]⟩
abbrev S1024 : Shape := ⟨1, ![1024]⟩
abbrev S_ : Shape := ⟨0, ![]⟩

class Facts : Prop where
  bcast_S_S16 : S_.BroadcastsInDim S16 (![] : Fin 0 → Fin S16.rank)
  bcast_S_S32768x128 : S_.BroadcastsInDim S32768x128 (![] : Fin 0 → Fin S32768x128.rank)
  bcast_S_S1280x128 : S_.BroadcastsInDim S1280x128 (![] : Fin 0 → Fin S1280x128.rank)
  bcast_S_S128 : S_.BroadcastsInDim S128 (![] : Fin 0 → Fin S128.rank)
  bcast_S_S128x128 : S_.BroadcastsInDim S128x128 (![] : Fin 0 → Fin S128x128.rank)
  bcast_S_S16x1024 : S_.BroadcastsInDim S16x1024 (![] : Fin 0 → Fin S16x1024.rank)
  bcast_S_S1024 : S_.BroadcastsInDim S1024 (![] : Fin 0 → Fin S1024.rank)

variable [Facts]

def fn_part1 {F : FTy → Type} [FloatOps F] (main_arg8 : FVec F S128x128 .f32) (main_arg9 : FVec F S128 .f32) (main_arg10 : FVec F S16x1024 .f32) (main_arg11 : FVec F S1024 .f32) (main_v5 : IVec S16 1) (main_v8 : IVec S32768x128 1) (main_v11 : IVec S1280x128 1) (main_v14 : IVec S128 1) (main_v17 : IVec S128 1) : IVec S16 1 × IVec S32768x128 1 × IVec S1280x128 1 × IVec S128 1 × IVec S128 1 × IVec S128x128 1 × IVec S128 1 × IVec S16x1024 1 × IVec S1024 1 :=
  let main_v18 : FVec F S128x128 .f32 := Host.absf main_arg8
  let main_cst_4 : FVec F S_ .f32 := constant S_ .f32 0x7F800000#32
  let main_v19 : FVec F S128x128 .f32 := broadcastInDim S128x128 ![] bcast_S_S128x128 main_cst_4
  let main_v20 : IVec S128x128 1 := cmpf .olt main_v18 main_v19
  let main_v21 : FVec F S128 .f32 := Host.absf main_arg9
  let main_cst_5 : FVec F S_ .f32 := constant S_ .f32 0x7F800000#32
  let main_v22 : FVec F S128 .f32 := broadcastInDim S128 ![] bcast_S_S128 main_cst_5
  let main_v23 : IVec S128 1 := cmpf .olt main_v21 main_v22
  let main_v24 : FVec F S16x1024 .f32 := Host.absf main_arg10
  let main_cst_6 : FVec F S_ .f32 := constant S_ .f32 0x7F800000#32
  let main_v25 : FVec F S16x1024 .f32 := broadcastInDim S16x1024 ![] bcast_S_S16x1024 main_cst_6
  let main_v26 : IVec S16x1024 1 := cmpf .olt main_v24 main_v25
  let main_v27 : FVec F S1024 .f32 := Host.absf main_arg11
  let main_cst_7 : FVec F S_ .f32 := constant S_ .f32 0x7F800000#32
  let main_v28 : FVec F S1024 .f32 := broadcastInDim S1024 ![] bcast_S_S1024 main_cst_7
  let main_v29 : IVec S1024 1 := cmpf .olt main_v27 main_v28
  (main_v5, main_v8, main_v11, main_v14, main_v17, main_v20, main_v23, main_v26, main_v29)

def fn {F : FTy → Type} [FloatOps F] (main_arg0 : FVec F S32768x3 .f32) (main_arg1 : FVec F S32768x128 .f32) (main_arg2 : IVec S16 32) (main_arg3 : IVec S16 32) (main_arg4 : FVec F S1280x128 .f32) (main_arg5 : FVec F S128 .f32) (main_arg6 : FVec F S128 .f32) (main_arg7 : FVec F S128 .f32) (main_arg8 : FVec F S128x128 .f32) (main_arg9 : FVec F S128 .f32) (main_arg10 : FVec F S16x1024 .f32) (main_arg11 : FVec F S1024 .f32) : IVec S16 1 × IVec S32768x128 1 × IVec S1280x128 1 × IVec S128 1 × IVec S128 1 × IVec S128x128 1 × IVec S128 1 × IVec S16x1024 1 × IVec S1024 1 :=
  let main_v0 : IVec S16 32 := iotaInDim S16 32 0
  let main_c : IVec S_ 32 := constantI S_ 32 1#32
  let main_v1 : IVec S16 32 := broadcastInDim S16 ![] bcast_S_S16 main_c
  let main_v2 : IVec S16 32 := addi main_v0 main_v1
  let main_c_0 : IVec S_ 32 := constantI S_ 32 2048#32
  let main_v3 : IVec S16 32 := broadcastInDim S16 ![] bcast_S_S16 main_c_0
  let main_v4 : IVec S16 32 := muli main_v2 main_v3
  let main_v5 : IVec S16 1 := cmpi .eq main_arg2 main_v4
  let main_v6 : FVec F S32768x128 .f32 := Host.absf main_arg1
  let main_cst : FVec F S_ .f32 := constant S_ .f32 0x7F800000#32
  let main_v7 : FVec F S32768x128 .f32 := broadcastInDim S32768x128 ![] bcast_S_S32768x128 main_cst
  let main_v8 : IVec S32768x128 1 := cmpf .olt main_v6 main_v7
  let main_v9 : FVec F S1280x128 .f32 := Host.absf main_arg4
  let main_cst_1 : FVec F S_ .f32 := constant S_ .f32 0x7F800000#32
  let main_v10 : FVec F S1280x128 .f32 := broadcastInDim S1280x128 ![] bcast_S_S1280x128 main_cst_1
  let main_v11 : IVec S1280x128 1 := cmpf .olt main_v9 main_v10
  let main_v12 : FVec F S128 .f32 := Host.absf main_arg5
  let main_cst_2 : FVec F S_ .f32 := constant S_ .f32 0x7F800000#32
  let main_v13 : FVec F S128 .f32 := broadcastInDim S128 ![] bcast_S_S128 main_cst_2
  let main_v14 : IVec S128 1 := cmpf .olt main_v12 main_v13
  let main_v15 : FVec F S128 .f32 := Host.absf main_arg6
  let main_cst_3 : FVec F S_ .f32 := constant S_ .f32 0x7F800000#32
  let main_v16 : FVec F S128 .f32 := broadcastInDim S128 ![] bcast_S_S128 main_cst_3
  let main_v17 : IVec S128 1 := cmpf .olt main_v15 main_v16
  fn_part1 (F := F) main_arg8 main_arg9 main_arg10 main_arg11 main_v5 main_v8 main_v11 main_v14 main_v17
-- ==== Kernel.lean ====
abbrev S32768x3 : Shape := ⟨2, ![32768, 3]⟩
abbrev S32768x128 : Shape := ⟨2, ![32768, 128]⟩
abbrev S16 : Shape := ⟨1, ![16]⟩
abbrev S1280x128 : Shape := ⟨2, ![1280, 128]⟩
abbrev S128 : Shape := ⟨1, ![128]⟩
abbrev S128x128 : Shape := ⟨2, ![128, 128]⟩
abbrev S16x1024 : Shape := ⟨2, ![16, 1024]⟩
abbrev S1024 : Shape := ⟨1, ![1024]⟩
abbrev S16x1 : Shape := ⟨2, ![16, 1]⟩
abbrev S1x1024 : Shape := ⟨2, ![1, 1024]⟩
abbrev S1x128 : Shape := ⟨2, ![1, 128]⟩
abbrev S8192x128 : Shape := ⟨2, ![8192, 128]⟩
abbrev S16x128 : Shape := ⟨2, ![16, 128]⟩
abbrev S9 : Shape := ⟨1, ![9]⟩
abbrev S1 : Shape := ⟨1, ![1]⟩
abbrev S_ : Shape := ⟨0, ![]⟩
abbrev S2048x128 : Shape := ⟨2, ![2048, 128]⟩
abbrev S1024x128 : Shape := ⟨2, ![1024, 128]⟩
abbrev S16x16 : Shape := ⟨2, ![16, 16]⟩

abbrev nBuf : Space → Nat
  | .hbm => 19
  | .vmem => 18
  | .smem => 0
  | _ => 0

abbrev bufTy : (tb : Table) → Fin (tcTables nBuf tb) → BufTy
  | .hbm, ⟨0, _⟩ => ⟨S32768x3, .f32⟩
  | .hbm, ⟨1, _⟩ => ⟨S32768x128, .f32⟩
  | .hbm, ⟨2, _⟩ => ⟨S16, .i32⟩
  | .hbm, ⟨3, _⟩ => ⟨S16, .i32⟩
  | .hbm, ⟨4, _⟩ => ⟨S1280x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S16x1024, .f32⟩
  | .hbm, ⟨11, _⟩ => ⟨S1024, .f32⟩
  | .hbm, ⟨12, _⟩ => ⟨S16x1, .i32⟩
  | .hbm, ⟨13, _⟩ => ⟨S1x1024, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S32768x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S32768x128, .bf16⟩
  | .local _ .vmem, ⟨5, _⟩ => ⟨S16x128, .f32⟩
  | .local _ .vmem, ⟨6, _⟩ => ⟨S128x128, .f32⟩
  | .local _ .vmem, ⟨7, _⟩ => ⟨S16x128, .f32⟩
  | .local _ .vmem, ⟨8, _⟩ => ⟨S128x128, .bf16⟩
  | .local _ .vmem, ⟨9, _⟩ => ⟨S1280x128, .f32⟩
  | .local _ .vmem, ⟨10, _⟩ => ⟨S128x128, .f32⟩
  | .local _ .vmem, ⟨11, _⟩ => ⟨S16x1024, .f32⟩
  | .local _ .vmem, ⟨12, _⟩ => ⟨S1x1024, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S16x1, .i32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c4_i32 : BitVec 32 := 4#32
  let v3 : BitVec 1 := Scalar.cmpi .slt arg0 c4_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c8192_i32 : BitVec 32 := 8192#32
  let v14 : BitVec 32 := Scalar.muli arg0 c8192_i32
  let v15 : Index := Scalar.indexCast v14
  let c0_6 : Index := 0#32
  ![v15.toNat, 0]
def k0_cond4 (i : grid0.Coords) : BitVec 1 :=
  let arg0 : BitVec 32 := BitVec.ofNat 32 (i 0).val
  let c4_i32_3 : BitVec 32 := 4#32
  let v9 : BitVec 1 := Scalar.cmpi .sge arg0 c4_i32_3
  let v10 : BitVec 32 := Scalar.extui v9
  let c0_i32_4 : BitVec 32 := 0#32
  let v11 : BitVec 1 := Scalar.cmpi .ne v10 c0_i32_4
  v11

def k0_off2 (i : grid0.Coords) (c0_i32_12 : BitVec 32) : Fin 2 → Nat :=
  let arg0 : BitVec 32 := BitVec.ofNat 32 (i 0).val
  let c4_i32_5 : BitVec 32 := 4#32
  let v12 : BitVec 32 := Scalar.subi arg0 c4_i32_5
  let c8192_i32 : BitVec 32 := 8192#32
  let v24 : BitVec 32 := Scalar.muli v12 c8192_i32
  let v25 : BitVec 32 := Scalar.addi v24 c0_i32_12
  let v26 : Index := Scalar.indexCast v25
  let c0_13 : Index := 0#32
  ![v26.toNat, 0]
def cc0_transform_1 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32768x3 : Shape := ⟨2, ![32768, 3]⟩
abbrev S32768x128 : Shape := ⟨2, ![32768, 128]⟩
abbrev S16 : Shape := ⟨1, ![16]⟩
abbrev S1280x128 : Shape := ⟨2, ![1280, 128]⟩
abbrev S128 : Shape := ⟨1, ![128]⟩
abbrev S128x128 : Shape := ⟨2, ![128, 128]⟩
abbrev S16x1024 : Shape := ⟨2, ![16, 1024]⟩
abbrev S1024 : Shape := ⟨1, ![1024]⟩
abbrev S1x16 : Shape := ⟨2, ![1, 16]⟩
abbrev S32768 : Shape := ⟨1, ![32768]⟩
abbrev S32768x1 : Shape := ⟨2, ![32768, 1]⟩
abbrev S32768x16 : Shape := ⟨2, ![32768, 16]⟩
abbrev S_ : Shape := ⟨0, ![]⟩
abbrev S1 : Shape := ⟨1, ![1]⟩
abbrev S15 : Shape := ⟨1, ![15]⟩
abbrev S16x128 : Shape := ⟨2, ![16, 128]⟩
abbrev S16x1 : Shape := ⟨2, ![16, 1]⟩
abbrev S1x128 : Shape := ⟨2, ![1, 128]⟩
abbrev S16x16 : Shape := ⟨2, ![16, 16]⟩
abbrev S1x1024 : Shape := ⟨2, ![1, 1024]⟩
abbrev S32768x1024 : Shape := ⟨2, ![32768, 1024]⟩
abbrev S32768x1280 : Shape := ⟨2, ![32768, 1280]⟩

abbrev nBuf : Space → Nat
  | .hbm => 124
  | .vmem => 0
  | .smem => 0
  | _ => 0

abbrev bufTy : (tb : Table) → Fin (tcTables nBuf tb) → BufTy
  | .hbm, ⟨0, _⟩ => ⟨S32768x3, .f32⟩
  | .hbm, ⟨1, _⟩ => ⟨S32768x128, .f32⟩
  | .hbm, ⟨2, _⟩ => ⟨S16, .i32⟩
  | .hbm, ⟨3, _⟩ => ⟨S16, .i32⟩
  | .hbm, ⟨4, _⟩ => ⟨S1280x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S16x1024, .f32⟩
  | .hbm, ⟨11, _⟩ => ⟨S1024, .f32⟩
  | .hbm, ⟨12, _⟩ => ⟨S1x16, .i32⟩
  | .hbm, ⟨13, _⟩ => ⟨S32768, .i32⟩
  | .hbm, ⟨14, _⟩ => ⟨S32768x1, .i32⟩
  | .hbm, ⟨15, _⟩ => ⟨S32768x16, .i32⟩
  | .hbm, ⟨16, _⟩ => ⟨S32768x16, .i32⟩
  | .hbm, ⟨17, _⟩ => ⟨S32768x16, .i1⟩
  | .hbm, ⟨18, _⟩ => ⟨S32768x16, .i32⟩
  | .hbm, ⟨19, _⟩ => ⟨S_, .i32⟩
  | .hbm, ⟨20, _⟩ => ⟨S32768, .i32⟩
  | .hbm, ⟨21, _⟩ => ⟨S1, .i32⟩
  | .hbm, ⟨22, _⟩ => ⟨S15, .i32⟩
  | .hbm, ⟨23, _⟩ => ⟨S15, .i32⟩
  | .hbm, ⟨24, _⟩ => ⟨S15, .i32⟩
  | .hbm, ⟨25, _⟩ => ⟨S16, .i32⟩
  | .hbm, ⟨26, _⟩ => ⟨S16, .f32⟩
  | .hbm, ⟨27, _⟩ => ⟨S_, .f32⟩
  | .hbm, ⟨28, _⟩ => ⟨S16x128, .f32⟩
  | .hbm, ⟨29, _⟩ => ⟨S32768x1, .i32⟩
  | .hbm, ⟨30, _⟩ => ⟨S16x128, .f32⟩
  | .hbm, ⟨31, _⟩ => ⟨S16x1, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S1x128, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S16x128, .f32⟩
  | .hbm, ⟨40, _⟩ => ⟨S16x128, .f32⟩
  | .hbm, ⟨41, _⟩ => ⟨S16x1, .i32⟩
  | .hbm, ⟨42, _⟩ => ⟨S1x16, .i32⟩
  | .hbm, ⟨43, _⟩ => ⟨S16x16, .i32⟩
  | .hbm, ⟨44, _⟩ => ⟨S16x16, .i32⟩
  | .hbm, ⟨45, _⟩ => ⟨S16x16, .i1⟩
  | .hbm, ⟨46, _⟩ => ⟨S16x16, .f32⟩
  | .hbm, ⟨47, _⟩ => ⟨S16x1024, .f32⟩
  | .hbm, ⟨48, _⟩ => ⟨S1x1024, .f32⟩
  | .hbm, ⟨49, _⟩ => ⟨S16x1024, .f32⟩
  | .hbm, ⟨50, _⟩ => ⟨S16x1024, .f32⟩
  | .hbm, ⟨51, _⟩ => ⟨S_, .f32⟩
  | .hbm, ⟨52, _⟩ => ⟨S16x1024, .f32⟩
  | .hbm, ⟨53, _⟩ => ⟨S16x1024, .f32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S32768x128, .f32⟩
  | .hbm, ⟨63, _⟩ => ⟨S_, .i32⟩
  | .hbm, ⟨64, _⟩ => ⟨S32768, .i32⟩
  | .hbm, ⟨65, _⟩ => ⟨S32768, .i1⟩
  | .hbm, ⟨66, _⟩ => ⟨S_, .i32⟩
  | .hbm, ⟨67, _⟩ => ⟨S32768, .i32⟩
  | .hbm, ⟨68, _⟩ => ⟨S32768, .i32⟩
  | .hbm, ⟨69, _⟩ => ⟨S32768, .i32⟩
  | .hbm, ⟨70, _⟩ => ⟨S32768x1, .i32⟩
  | .hbm, ⟨71, _⟩ => ⟨S32768x1024, .f32⟩
  | .hbm, ⟨72, _⟩ => ⟨S32768x1280, .f32⟩
  | .hbm, ⟨73, _⟩ => ⟨S32768x128, .f32⟩
  | .hbm, ⟨74, _⟩ => ⟨S1x128, .f32⟩
  | .hbm, ⟨75, _⟩ => ⟨S32768x128, .f32⟩
  | .hbm, ⟨76, _⟩ => ⟨S32768x128, .f32⟩
  | .hbm, ⟨77, _⟩ => ⟨S_, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S_, .i32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S32768x128, .f32⟩
  | .hbm, ⟨90, _⟩ => ⟨S32768x128, .f32⟩
  | .hbm, ⟨91, _⟩ => ⟨S32768x128, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S_, .f32⟩
  | .hbm, ⟨100, _⟩ => ⟨S_, .i1⟩
  | .hbm, ⟨101, _⟩ => ⟨S_, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S32768x128, .f32⟩
  | .hbm, ⟨107, _⟩ => ⟨S32768x128, .f32⟩
  | .hbm, ⟨108, _⟩ => ⟨S_, .f32⟩
  | .hbm, ⟨109, _⟩ => ⟨S128, .f32⟩
  | .hbm, ⟨110, _⟩ => ⟨S128, .f32⟩
  | .hbm, ⟨111, _⟩ => ⟨S128, .f32⟩
  | .hbm, ⟨112, _⟩ => ⟨S1x128, .f32⟩
  | .hbm, ⟨113, _⟩ => ⟨S32768x128, .f32⟩
  | .hbm, ⟨114, _⟩ => ⟨S32768x128, .f32⟩
  | .hbm, ⟨115, _⟩ => ⟨S1x128, .f32⟩
  | .hbm, ⟨116, _⟩ => ⟨S32768x128, .f32⟩
  | .hbm, ⟨117, _⟩ => ⟨S32768x128, .f32⟩
  | .hbm, ⟨118, _⟩ => ⟨S1x128, .f32⟩
  | .hbm, ⟨119, _⟩ => ⟨S32768x128, .f32⟩
  | .hbm, ⟨120, _⟩ => ⟨S32768x128, .f32⟩
  | .hbm, ⟨121, _⟩ => ⟨S_, .f32⟩
  | .hbm, ⟨122, _⟩ => ⟨S32768x128, .f32⟩
  | .hbm, ⟨123, _⟩ => ⟨S32768x128, .f32⟩
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_cst : Ref sig .tc := ⟨.hbm, 51, rfl⟩
abbrev main_call2_v0 : Ref sig .tc := ⟨.hbm, 52, rfl⟩
abbrev main_v30 : Ref sig .tc := ⟨.hbm, 53, rfl⟩
abbrev main_c_0 : Ref sig .tc := ⟨.hbm, 54, rfl⟩
abbrev main_v31 : Ref sig .tc := ⟨.hbm, 55, rfl⟩
abbrev main_v32 : Ref sig .tc := ⟨.hbm, 56, rfl⟩
abbrev main_c_1 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_2 : Ref sig .tc := ⟨.hbm, 63, rfl⟩
abbrev main_v38 : Ref sig .tc := ⟨.hbm, 64, rfl⟩
abbrev main_v39 : Ref sig .tc := ⟨.hbm, 65, rfl⟩
abbrev main_c_3 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_c_6 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_cst_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_v7 : Ref sig .tc := ⟨.hbm, 92, rfl⟩
abbrev main_call3_cst_1 : Ref sig .tc := ⟨.hbm, 93, rfl⟩
abbrev main_call3_v8 : Ref sig .tc := ⟨.hbm, 94, rfl⟩
abbrev main_call3_cst_2 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_cst_3 : Ref sig .tc := ⟨.hbm, 99, rfl⟩
abbrev main_call3_v12 : Ref sig .tc := ⟨.hbm, 100, rfl⟩
abbrev main_call3_cst_4 : Ref sig .tc := ⟨.hbm, 101, rfl⟩
abbrev main_call3_call0_v0 : Ref sig .tc := ⟨.hbm, 102, rfl⟩
abbrev main_call3_call0_v1 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_7 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_call4_cst : Ref sig .tc := ⟨.hbm, 121, rfl⟩
abbrev main_call4_v0 : Ref sig .tc := ⟨.hbm, 122, rfl⟩
abbrev main_v69 : Ref sig .tc := ⟨.hbm, 123, rfl⟩

abbrev nD : Nat := 1
abbrev τ : Topo := Topo.v7x

variable {F : FTy → Type} [FloatOps F]
-- ==== Proof.Ideal.Vals.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.ValueKit.Tiles
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## What the body computes, as functions of what it reads -/

/-- The accumulator of segment sums after one block: the block's four column sums added into their rows. -/
def segStep (i : grid0.Coords) (x : Vec F S8192x128 .f32) (s : Vec F S16x128 .f32) : Vec F S16x128 .f32 :=
  k0_pay3 i x (iota .tc S16x128 32 [0] iota_S16x128_d0_w32) (k0_pay12 (BitVec.ofNat 32 (i 0).val) x) (k0_pay13 x) s

/-- The accumulator of segment sums after the first `p` blocks of `xs`. -/
def segAt (xs : Fin cfg0.N → Vec F S8192x128 .f32) : ℕ → Vec F S16x128 .f32
  | 0 => k0_pay1
  | p + 1 => if h : p < cfg0.N then segStep (grid0.coords ⟨p, h⟩) (xs ⟨p, h⟩) (segAt xs p) else segAt xs p

/-- The Gram accumulator after the first `p` blocks of `xs`. -/
def gramAt (xs : Fin cfg0.N → Vec F S8192x128 .f32) : ℕ → Vec F S128x128 .f32
  | 0 => k0_pay2
  | p + 1 => if h : p < cfg0.N then k0_pay11 (xs ⟨p, h⟩) (gramAt xs p) else gramAt xs p

/-- The nine operands the first point copies in, as read. -/
structure Ops (F : FTy → Type) where
  /-- the weights of the concatenated features -/
  w1 : Vec F S1280x128 .f32
  /-- the weights of the segment means -/
  w2 : Vec F S128x128 .f32
  /-- the rows of the categories -/
  w3 : Vec F S16x1024 .f32
  /-- the bias added to the categories' rows -/
  b3 : Vec F S1x1024 .f32
  /-- the bias of the concatenated features -/
  b1 : Vec F S1x128 .f32
  /-- the bias of the segment means -/
  b2 : Vec F S1x128 .f32
  /-- the normalisation's factor -/
  g1 : Vec F S1x128 .f32
  /-- the normalisation's offset -/
  be : Vec F S1x128 .f32
  /-- each segment's category -/
  y : Vec F S16x1 .i32

/-- The rows of the weights that multiply the token itself. -/
def w1a (o : Ops F) : Vec F S128x128 .f32 := View.ld o.w1 (Rect.unit (s := S1280x128) ![0, 0] S128x128.size inb_S1280x128_S128x128_0_0)
/-- The rows of the weights that multiply the segment's mean feature. -/
def w1b (o : Ops F) : Vec F S128x128 .f32 := View.ld o.w1 (Rect.unit (s := S1280x128) ![128, 0] S128x128.size inb_S1280x128_S128x128_128_0)
/-- The rows of the weights that multiply the category's feature. -/
def w1c (o : Ops F) : Vec F S1024x128 .f32 := View.ld o.w1 (Rect.unit (s := S1280x128) ![256, 0] S1024x128.size inb_S1280x128_S1024x128_256_0)

/-- The scaled weights the fourth point leaves, from the operands, the segment sums and the Gram matrix. -/
def w1sV (o : Ops F) (s : Vec F S16x128 .f32) (g : Vec F S128x128 .f32) : Vec F S128x128 .bf16 :=
  k0_pay6 (w1a o) o.g1 (k0_pay14 (w1b o) (w1c o) o.b1 o.b2 s o.w2 o.y o.w3 o.b3) (k0_pay15 (w1a o) s) (k0_pay16 (w1a o) s)
    (k0_pay17 (w1a o) g) (k0_pay18 (w1b o) (w1c o) o.b1 o.b2 s o.w2 o.y o.w3 o.b3) k0_pay19

/-- The segments' offsets the fourth point leaves. -/
def offsV (o : Ops F) (s : Vec F S16x128 .f32) (g : Vec F S128x128 .f32) : Vec F S16x128 .f32 :=
  k0_pay7 o.g1 o.be (k0_pay14 (w1b o) (w1c o) o.b1 o.b2 s o.w2 o.y o.w3 o.b3) (k0_pay15 (w1a o) s) (k0_pay16 (w1a o) s)
    (k0_pay17 (w1a o) g) (k0_pay18 (w1b o) (w1c o) o.b1 o.b2 s o.w2 o.y o.w3 o.b3) k0_pay19

/-- 2048 rows of the kept tokens from row `n`. -/
def rowsAt (X : Vec F S32768x128 .bf16) (n : ℕ) : Vec F S2048x128 .bf16 := fun z =>
  X (Fin.cons (⟨(n + (z 0).val) % 32768, Nat.mod_lt _ (by decide)⟩ : Fin 32768) (Fin.cons (⟨(z 1).val % 128, Nat.mod_lt _ (by decide)⟩ : Fin 128) finZeroElim))

/-- The result's block at a point of the second half: four groups of 2048 rows. -/
def outBlk (i : grid0.Coords) (w : Vec F S128x128 .bf16) (f : Vec F S16x128 .f32) (X : Vec F S32768x128 .bf16) : Vec F S8192x128 .f32 :=
  View.canon (Val := Elt F) (s := S8192x128) (e := .f32)
    [⟨Rect.unit ![6144, 0] S2048x128.size inb_S8192x128_S2048x128_6144_0,
        k0_pay8 w (k0_pay24 (Scalar.subi (BitVec.ofNat 32 (i 0).val) 4#32) (iota .tc S16x128 32 [0] iota_S16x128_d0_w32) f)
          (rowsAt X (8192 * ((i 0).val - 4) + 6144))⟩,
      ⟨Rect.unit ![4096, 0] S2048x128.size inb_S8192x128_S2048x128_4096_0,
        k0_pay23 (Scalar.subi (BitVec.ofNat 32 (i 0).val) 4#32) (iota .tc S16x128 32 [0] iota_S16x128_d0_w32) w f
          (rowsAt X (8192 * ((i 0).val - 4) + 4096))⟩,
      ⟨Rect.unit ![2048, 0] S2048x128.size inb_S8192x128_S2048x128_2048_0,
        k0_pay22 w (k0_pay21 (BitVec.ofNat 32 (i 0).val) f) (rowsAt X (8192 * ((i 0).val - 4) + 2048))⟩,
      ⟨Rect.unit ![0, 0] S2048x128.size inb_S8192x128_S2048x128_0_0,
        k0_pay20 (BitVec.ofNat 32 (i 0).val) w f (rowsAt X (8192 * ((i 0).val - 4)))⟩]

/-- `X` is `X₀` with block `n` of 8192 rows written over by `v`, as far as the rows before that block's end go. -/
def Put (n : ℕ) (v : Vec F S8192x128 .bf16) (X₀ X : Vec F S32768x128 .bf16) : Prop :=
  (∀ (y : S32768x128.Idx) (z : S8192x128.Idx), (y 0).val = 8192 * n + (z 0).val → (y 1).val = (z 1).val → X y = v z)
    ∧ ∀ y : S32768x128.Idx, (y 0).val < 8192 * n → X y = X₀ y

/-! ## The computed offsets -/

/-- Where a block's rows are kept. -/
theorem k0_off1_val (i : grid0.Coords) (h : (i 0).val < 4) : k0_off1 i = ![8192 * (i 0).val, 0] := by
  unfold k0_off1
  have : (i 0).val = 0 ∨ (i 0).val = 1 ∨ (i 0).val = 2 ∨ (i 0).val = 3 := by omega
  rcases this with h | h | h | h <;> rw [h] <;> rfl

/-- Where a group of rows of the second half is read. -/
theorem k0_off2_val (i : grid0.Coords) (h : 4 ≤ (i 0).val) (r : Fin 4) :
    k0_off2 i (BitVec.ofNat 32 (2048 * r.val)) = ![8192 * ((i 0).val - 4) + 2048 * r.val, 0] := by
  unfold k0_off2
  have h8 : (i 0).val < 8 := (i 0).isLt
  have : (i 0).val = 4 ∨ (i 0).val = 5 ∨ (i 0).val = 6 ∨ (i 0).val = 7 := by omega
  rcases this with h | h | h | h <;> rw [h] <;> revert r <;> decide

/-- The rows that a point of the first half stores. -/
theorem put_of_writes (sX : Memref sig .tc .vmem S32768x128 .bf16) (i : grid0.Coords) (h : (i 0).val < 4) (hc2 : k0_cond2 i = 1#1)
    (f) (v : Vec F S8192x128 .bf16) :
    Put (i 0).val v (sX.view.read (Elt F) f)
      (sX.view.read (Elt F) (sX.view.writes (Elt F) f [⟨Rect.unit (k0_off1 i) S8192x128.size (k0_off1_inb i hc2), v⟩])) := by
  constructor
  · intro y z h0 h1
    exact View.read_writes_cons_rows_of_mem sX.view f (k0_off1_inb i hc2) v [] y z (k0_off1_val i h) h0 h1
  · intro y hy
    rw [View.read_writes_cons_rows_of_not_mem sX.view f (k0_off1_inb i hc2) v [] y (k0_off1_val i h) rfl (.inl hy)]
    rfl

/-- A load of rows from the kept tokens. -/
theorem ld_rows (X : Vec F S32768x128 .bf16) (off : Fin 2 → ℕ) (n : ℕ) (hn : off = ![n, 0]) (inb) :
    View.ld (Val := Elt F) (e' := .bf16) X (Rect.unit (s := S32768x128) off S2048x128.size inb) = rowsAt X n := by
  subst hn
  funext z
  unfold rowsAt
  refine congrArg X (funext fun a => Fin.ext ?_)
  have h0 := inb 0
  have h1 := (z 0).isLt
  have h2 := (z 1).isLt
  refine (Rect.idx_unit_val _ _ inb z a).trans ?_
  match a with
  | ⟨0, _⟩ =>
    simp only [S32768x128, S2048x128, Matrix.cons_val_zero] at h0 h1
    show n + (z 0).val = (n + (z 0).val) % 32768
    exact (Nat.mod_eq_of_lt (lt_of_lt_of_le (Nat.add_lt_add_left h1 n) h0)).symm
  | ⟨1, _⟩ =>
    show 0 + (z 1).val = (z 1).val % 128
    rw [Nat.zero_add]; exact (Nat.mod_eq_of_lt h2).symm

end Cert.KernelIdeal.Hand
end
-- ==== Proof.Ideal.Setup.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.Vals
public import Idealize.ShloMosaic.Lib.Pipeline.TableIdle
public import Idealize.ShloMosaic.Lib.DeliveryRep
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- A buffer held whole at given contents. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-! The operands left in HBM and the scratch, by name. -/

/-- The classes in main memory. -/
abbrev hY : Memref sig .tc .hbm S16x1 .i32 := Memref.whole main_v0
/-- The first layer's weights in main memory. -/
abbrev hW1 : Memref sig .tc .hbm S1280x128 .f32 := Memref.whole main_arg4
/-- The second layer's weights in main memory. -/
abbrev hW2 : Memref sig .tc .hbm S128x128 .f32 := Memref.whole main_arg8
/-- The third layer's weights in main memory. -/
abbrev hW3 : Memref sig .tc .hbm S16x1024 .f32 := Memref.whole main_arg10
/-- The third layer's bias in main memory. -/
abbrev hb3 : Memref sig .tc .hbm S1x1024 .f32 := Memref.whole main_v1
/-- The first layer's bias in main memory. -/
abbrev hb1 : Memref sig .tc .hbm S1x128 .f32 := Memref.whole main_v2
/-- The second layer's bias in main memory. -/
abbrev hb2 : Memref sig .tc .hbm S1x128 .f32 := Memref.whole main_v3
/-- The normalisation's factor in main memory. -/
abbrev hg1 : Memref sig .tc .hbm S1x128 .f32 := Memref.whole main_v4
/-- The normalisation's offset in main memory. -/
abbrev hbe : Memref sig .tc .hbm S1x128 .f32 := Memref.whole main_v5
/-- All the tokens, in scratch. -/
abbrev sX : Memref sig .tc .vmem S32768x128 .bf16 := Memref.whole cc0_scratch0
/-- The segments' sums, in scratch. -/
abbrev sS : Memref sig .tc .vmem S16x128 .f32 := Memref.whole cc0_scratch1
/-- The Gram matrix, in scratch. -/
abbrev sG : Memref sig .tc .vmem S128x128 .f32 := Memref.whole cc0_scratch2
/-- The segments' offsets, in scratch. -/
abbrev sO : Memref sig .tc .vmem S16x128 .f32 := Memref.whole cc0_scratch3
/-- The scaled weights, in scratch. -/
abbrev sW : Memref sig .tc .vmem S128x128 .bf16 := Memref.whole cc0_scratch4
/-- The first layer's weights in scratch. -/
abbrev sW1 : Memref sig .tc .vmem S1280x128 .f32 := Memref.whole cc0_scratch5
/-- The second layer's weights in scratch. -/
abbrev sW2 : Memref sig .tc .vmem S128x128 .f32 := Memref.whole cc0_scratch6
/-- The third layer's weights in scratch. -/
abbrev sW3 : Memref sig .tc .vmem S16x1024 .f32 := Memref.whole cc0_scratch7
/-- The third layer's bias in scratch. -/
abbrev sb3 : Memref sig .tc .vmem S1x1024 .f32 := Memref.whole cc0_scratch8
/-- The first layer's bias in scratch. -/
abbrev sb1 : Memref sig .tc .vmem S1x128 .f32 := Memref.whole cc0_scratch9
/-- The second layer's bias in scratch. -/
abbrev sb2 : Memref sig .tc .vmem S1x128 .f32 := Memref.whole cc0_scratch10
/-- The normalisation's factor in scratch. -/
abbrev sg1 : Memref sig .tc .vmem S1x128 .f32 := Memref.whole cc0_scratch11
/-- The normalisation's offset in scratch. -/
abbrev sbe : Memref sig .tc .vmem S1x128 .f32 := Memref.whole cc0_scratch12
/-- The classes in scratch. -/
abbrev sY : Memref sig .tc .vmem S16x1 .i32 := Memref.whole cc0_scratch13

/-- The kernel body on given window buffers. -/
abbrev body (i : grid0.Coords) (arg2 : Memref sig .tc .vmem S8192x128 .f32) (harg2 : arg2.IsWhole)
    (arg11 : Memref sig .tc .vmem S8192x128 .f32) (harg11 : arg11.IsWhole) : Prog (TpuEff nD τ sig (Elt F) Λ₀ .tc) PUnit :=
  cc0__main_body i hY (Memref.isWhole_whole _) arg2 harg2 hW1 (Memref.isWhole_whole _) hW2 (Memref.isWhole_whole _)
    hW3 (Memref.isWhole_whole _) hb3 (Memref.isWhole_whole _) hb1 (Memref.isWhole_whole _) hb2 (Memref.isWhole_whole _)
    hg1 (Memref.isWhole_whole _) hbe (Memref.isWhole_whole _) arg11 harg11 sX (Memref.isWhole_whole _)
    sS (Memref.isWhole_whole _) sG (Memref.isWhole_whole _) sO (Memref.isWhole_whole _) sW (Memref.isWhole_whole _)
    sW1 (Memref.isWhole_whole _) sW2 (Memref.isWhole_whole _) sW3 (Memref.isWhole_whole _) sb3 (Memref.isWhole_whole _)
    sb1 (Memref.isWhole_whole _) sb2 (Memref.isWhole_whole _) sg1 (Memref.isWhole_whole _) sbe (Memref.isWhole_whole _)
    sY (Memref.isWhole_whole _) cc0_scratch14

/-- A load of the whole of a buffer that holds `x` reads `x`. -/
theorem rep_full {S : Shape} {e : EltTy} (M : Memref sig .tc .vmem S e) (x : S.Idx → Elt F e) {off : Fin S.rank → ℕ}
    (inb : ∀ a, off a + S.size a ≤ S.size a) :
    View.readAt (Elt F) M.view (Rect.unit off S.size inb).toLoadRect (M.view.rep x) = x :=
  (View.readAt_full ..).trans (View.read_rep ..)

/-- A load of a part of a buffer that holds `x` reads that part of `x`. -/
theorem rep_ld {S : Shape} {e : EltTy} (M : Memref sig .tc .vmem S e) (x : S.Idx → Elt F e) (r : Rect S) :
    View.readAt (Elt F) M.view r.toLoadRect (M.view.rep x) = View.ld x r :=
  (View.readAt_eq_ld ..).trans (congrArg (fun y => View.ld y r) (View.read_rep ..))

/-- The copy of a whole operand into its scratch, in flight: on landing the scratch holds what the operand holds. -/
abbrev fl (c : Dev nD) (k : Fin 13) (N : ℕ) {S : Shape} {e : EltTy} (src : Memref sig .tc .hbm S e) (dst : Memref sig .tc .vmem S e)
    (g : Buf (Elt F) (src.view.loc (c : Thread nD τ))) : sProp 𝕄 :=
  iprop(Transfers.Flight (countersEmb (U := Pipeline.UD sig nD τ)) (c : Thread nD τ) (SemLoc.dma k) (default : Unit) N
      iprop((dst.view.loc (c : Thread nD τ) ↦[dst.view.set]{fullShare} dst.view.rep (src.view.read (Elt F) g))
        ∗ (src.view.loc (c : Thread nD τ) ↦[src.view.set]{fullShare} g))
    ∗ (src.view.loc (c : Thread nD τ) ↦[Finset.univ \ src.view.set]{fullShare} g))

/-- An issued copy of a whole operand, put in the form above. -/
theorem fl_intro (c : Dev nD) (k : Fin 13) (N : ℕ) {S : Shape} {e : EltTy} (src : Memref sig .tc .hbm S e) (dst : Memref sig .tc .vmem S e)
    (g : Buf (Elt F) (src.view.loc (c : Thread nD τ))) (fd : Buf (Elt F) (dst.view.loc (c : Thread nD τ))) (p : S.Idx → Elt F e)
    (hp : p = src.view.read (Elt F) g) :
    (iprop(Transfers.Flight (countersEmb (U := Pipeline.UD sig nD τ)) (c : Thread nD τ) (SemLoc.dma k) (default : Unit) N
      iprop((dst.view.loc (c : Thread nD τ) ↦[dst.view.set]{fullShare} dst.view.writes (Elt F) fd [⟨Rect.whole S, p⟩])
        ∗ (src.view.loc (c : Thread nD τ) ↦[src.view.set]{fullShare} g))
      ∗ (src.view.loc (c : Thread nD τ) ↦[Finset.univ \ src.view.set]{fullShare} g)) : sProp 𝕄) ⊢ fl c k N src dst g := by
  have h : (iprop((dst.view.loc (c : Thread nD τ) ↦[dst.view.set]{fullShare} dst.view.writes (Elt F) fd [⟨Rect.whole S, p⟩])
        ∗ (src.view.loc (c : Thread nD τ) ↦[src.view.set]{fullShare} g)) : sProp 𝕄)
      ⊢ iprop((dst.view.loc (c : Thread nD τ) ↦[dst.view.set]{fullShare} dst.view.rep (src.view.read (Elt F) g))
        ∗ (src.view.loc (c : Thread nD τ) ↦[src.view.set]{fullShare} g)) := by
    refine (delivery_rep (c : Thread nD τ) src dst fullShare fullShare g fd p _ hp rfl).trans ?_
    rw [← pointsTo_rep (Ix := Unit) (Name := ℕ) (U := Pipeline.UD sig nD τ) (Lvl := ℕ) (c : Thread nD τ) src g fullShare]
  iintro ⟨HF, HR⟩
  isplitl [HF]
  · iapply (Transfers.Flight_mono (countersEmb (U := Pipeline.UD sig nD τ)) (c := (c : Thread nD τ)) h); iexact HF
  · iexact HR

end Cert.KernelIdeal.Hand
end
-- ==== Proof.Ideal.RunA.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.Setup
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The first point: both accumulators zeroed, nine copies issued, the first block taken in. -/
theorem runA (c : Dev nD) (i : grid0.Coords) (hi : (i 0).val = 0)
    (hc3 : ¬ Scalar.cmpi .ne (Scalar.extui (Scalar.cmpi .eq (BitVec.ofNat 32 (i 0).val) 3#32)) 0#32 = 1#1)
    (hc2 : k0_cond2 i = 1#1) (hc4 : ¬ k0_cond4 i = 1#1)
    (arg2 : Memref sig .tc .vmem S8192x128 .f32) (harg2 : arg2.IsWhole)
    (arg11 : Memref sig .tc .vmem S8192x128 .f32) (harg11 : arg11.IsWhole)
    (x : Vec F S8192x128 .f32)
    (gW1 : Buf (Elt F) (hW1.view.loc (c : Thread nD τ)))
    (gW2 : Buf (Elt F) (hW2.view.loc (c : Thread nD τ)))
    (gW3 : Buf (Elt F) (hW3.view.loc (c : Thread nD τ)))
    (gb3 : Buf (Elt F) (hb3.view.loc (c : Thread nD τ)))
    (gb1 : Buf (Elt F) (hb1.view.loc (c : Thread nD τ)))
    (gb2 : Buf (Elt F) (hb2.view.loc (c : Thread nD τ)))
    (gg1 : Buf (Elt F) (hg1.view.loc (c : Thread nD τ)))
    (gbe : Buf (Elt F) (hbe.view.loc (c : Thread nD τ)))
    (gY : Buf (Elt F) (hY.view.loc (c : Thread nD τ)))
    (W : Waits sig Unit) (K : PUnit → sProp 𝕄) :
    iprop(owns (c : Thread nD τ) arg2 fullShare x ∗ (∃ d, owns (c : Thread nD τ) sX fullShare d) ∗ (∃ d, owns (c : Thread nD τ) sS fullShare d) ∗ (∃ d, owns (c : Thread nD τ) sG fullShare d)
        ∗ (pt c hW1 gW1 ∗ pt c hW2 gW2 ∗ pt c hW3 gW3 ∗ pt c hb3 gb3 ∗ pt c hb1 gb1 ∗ pt c hb2 gb2 ∗ pt c hg1 gg1 ∗ pt c hbe gbe ∗ pt c hY gY)
        ∗ ((∃ d, owns (c : Thread nD τ) sW1 fullShare d) ∗ (∃ d, owns (c : Thread nD τ) sW2 fullShare d) ∗ (∃ d, owns (c : Thread nD τ) sW3 fullShare d) ∗ (∃ d, owns (c : Thread nD τ) sb3 fullShare d) ∗ (∃ d, owns (c : Thread nD τ) sb1 fullShare d) ∗ (∃ d, owns (c : Thread nD τ) sb2 fullShare d) ∗ (∃ d, owns (c : Thread nD τ) sg1 fullShare d) ∗ (∃ d, owns (c : Thread nD τ) sbe fullShare d) ∗ (∃ d, owns (c : Thread nD τ) sY fullShare d))
        ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
        ∗ owes (c : Thread nD τ) 0 W
        ∗ (iprop(owns (c : Thread nD τ) arg2 fullShare x
            ∗ (∃ X₀ X, ⌜Put (i 0).val (k0_pay10 x) X₀ X⌝ ∗ owns (c : Thread nD τ) sX fullShare X)
            ∗ owns (c : Thread nD τ) sS fullShare (segStep i x k0_pay1) ∗ owns (c : Thread nD τ) sG fullShare (k0_pay11 x k0_pay2)
            ∗ (fl c 4 20480 hW1 sW1 gW1 ∗ fl c 5 2048 hW2 sW2 gW2 ∗ fl c 6 2048 hW3 sW3 gW3 ∗ fl c 7 128 hb3 sb3 gb3 ∗ fl c 8 16 hb1 sb1 gb1 ∗ fl c 9 16 hb2 sb2 gb2 ∗ fl c 10 16 hg1 sg1 gg1 ∗ fl c 11 16 hbe sbe gbe ∗ fl c 12 256 hY sY gY)
            ∗ ∃ W', owes (c : Thread nD τ) 0 W') -∗ K ⟨⟩))
      ⊢ wp frame (wpE (defs₀ (F := F)) Variants.none c none) Set.univ (body i arg2 harg2 arg11 harg11) K := by
  unfold body; rw [cc0__main_body_eq_skeleton]; unfold cc0__main_body_skel; unfold owns
  iintro ⟨⟨%fx, %ex, Hx⟩, ⟨%dX, %fX, -, HX⟩, ⟨%dS, %fS, -, HS⟩, ⟨%dG, %fG, -, HG⟩, ⟨HW1, HW2, HW3, Hb3, Hb1, Hb2, Hg1, Hbe, HY⟩, ⟨⟨%dW1, %fW1, -, TW1⟩, ⟨%dW2, %fW2, -, TW2⟩, ⟨%dW3, %fW3, -, TW3⟩, ⟨%db3, %fb3, -, Tb3⟩, ⟨%db1, %fb1, -, Tb1⟩, ⟨%db2, %fb2, -, Tb2⟩, ⟨%dg1, %fg1, -, Tg1⟩, ⟨%dbe, %fbe, -, Tbe⟩, ⟨%dY, %fY, -, TY⟩⟩, ⟨QW1, QW2, QW3, Qb3, Qb1, Qb2, Qg1, Qbe, QY⟩, HW, Hk⟩
  rw [dif_pos (show Scalar.cmpi .ne (Scalar.extui (Scalar.cmpi .eq (BitVec.ofNat 32 (i 0).val) 0#32)) 0#32 = 1#1 by rw [hi]; decide)]
  sl_exec
  sl_step
  iapply Hk
  isplitl [Hx]
  · iexists fx; isplitr; swap; · iexact Hx
    ipureintro; exact ex
  isplitl [HX]
  · iexists _, _; isplitr; swap
    · iexists _; isplitr; swap; · iexact HX
      ipureintro; rfl
    ipureintro
    have e := (View.readAt_full (Val := Elt F) arg2.view fx inb_S8192x128_S8192x128_0_0).trans ex
    rw [e]
    exact put_of_writes sX i (by omega) hc2 _ _
  isplitl [HS]
  · iexists _; isplitr; swap; · iexact HS
    ipureintro
    have e := (View.readAt_full (Val := Elt F) arg2.view fx inb_S8192x128_S8192x128_0_0).trans ex
    refine (View.read_writes_full ..).trans ?_
    have e0 : runA.sl.r c arg2 fx = x := e
    have e1 : runA.sl.r_1 c i arg2 fx = k0_pay12 (BitVec.ofNat 32 (i 0).val) x := congrArg (k0_pay12 _) e
    have e2 : runA.sl.r_2 c arg2 fx = k0_pay13 x := congrArg k0_pay13 e
    have e3 : runA.sl.v75 (F := F) c = k0_pay1 (F := F) := View.readCov_full ..
    rw [e0, e1, e2, e3]; rfl
  isplitl [HG]
  · iexists _; isplitr; swap; · iexact HG
    ipureintro
    have e := (View.readAt_full (Val := Elt F) arg2.view fx inb_S8192x128_S8192x128_0_0).trans ex
    refine (View.read_writes_full ..).trans ?_
    have e3 : runA.sl.v19 (F := F) c = k0_pay2 (F := F) := View.readCov_full ..
    rw [e, e3]
  isplitl [QW1 HW1 QW2 HW2 QW3 HW3 Qb3 Hb3 Qb1 Hb1 Qb2 Hb2 Qg1 Hg1 Qbe Hbe QY HY]
  · isplitl [QW1 HW1]
    · iapply (fl_intro c 4 20480 hW1 sW1 gW1 fW1 _ rfl); isplitl [QW1]; · iexact QW1
      iexact HW1
    isplitl [QW2 HW2]
    · iapply (fl_intro c 5 2048 hW2 sW2 gW2 fW2 _ rfl); isplitl [QW2]; · iexact QW2
      iexact HW2
    isplitl [QW3 HW3]
    · iapply (fl_intro c 6 2048 hW3 sW3 gW3 fW3 _ rfl); isplitl [QW3]; · iexact QW3
      iexact HW3
    isplitl [Qb3 Hb3]
    · iapply (fl_intro c 7 128 hb3 sb3 gb3 fb3 _ rfl); isplitl [Qb3]; · iexact Qb3
      iexact Hb3
    isplitl [Qb1 Hb1]
    · iapply (fl_intro c 8 16 hb1 sb1 gb1 fb1 _ rfl); isplitl [Qb1]; · iexact Qb1
      iexact Hb1
    isplitl [Qb2 Hb2]
    · iapply (fl_intro c 9 16 hb2 sb2 gb2 fb2 _ rfl); isplitl [Qb2]; · iexact Qb2
      iexact Hb2
    isplitl [Qg1 Hg1]
    · iapply (fl_intro c 10 16 hg1 sg1 gg1 fg1 _ rfl); isplitl [Qg1]; · iexact Qg1
      iexact Hg1
    isplitl [Qbe Hbe]
    · iapply (fl_intro c 11 16 hbe sbe gbe fbe _ rfl); isplitl [Qbe]; · iexact Qbe
      iexact Hbe
    iapply (fl_intro c 12 256 hY sY gY fY _ rfl); isplitl [QY]; · iexact QY
    iexact HY
  iexists _; iexact HW

end Cert.KernelIdeal.Hand
end
-- ==== Proof.Ideal.RunB.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.Setup
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The second and third points: one more block taken in. -/
theorem runB (c : Dev nD) (i : grid0.Coords) (hi : (i 0).val < 4)
    (hc1 : ¬ Scalar.cmpi .ne (Scalar.extui (Scalar.cmpi .eq (BitVec.ofNat 32 (i 0).val) 0#32)) 0#32 = 1#1)
    (hc3 : ¬ Scalar.cmpi .ne (Scalar.extui (Scalar.cmpi .eq (BitVec.ofNat 32 (i 0).val) 3#32)) 0#32 = 1#1)
    (hc2 : k0_cond2 i = 1#1) (hc4 : ¬ k0_cond4 i = 1#1)
    (arg2 : Memref sig .tc .vmem S8192x128 .f32) (harg2 : arg2.IsWhole)
    (arg11 : Memref sig .tc .vmem S8192x128 .f32) (harg11 : arg11.IsWhole)
    (x : Vec F S8192x128 .f32) (X₀ : Vec F S32768x128 .bf16) (s : Vec F S16x128 .f32) (g : Vec F S128x128 .f32)
    (W : Waits sig Unit) (K : PUnit → sProp 𝕄) :
    iprop(owns (c : Thread nD τ) arg2 fullShare x ∗ owns (c : Thread nD τ) sX fullShare X₀ ∗ owns (c : Thread nD τ) sS fullShare s ∗ owns (c : Thread nD τ) sG fullShare g
        ∗ owes (c : Thread nD τ) 0 W
        ∗ (iprop(owns (c : Thread nD τ) arg2 fullShare x
            ∗ (∃ X, ⌜Put (i 0).val (k0_pay10 x) X₀ X⌝ ∗ owns (c : Thread nD τ) sX fullShare X)
            ∗ owns (c : Thread nD τ) sS fullShare (segStep i x s) ∗ owns (c : Thread nD τ) sG fullShare (k0_pay11 x g)
            ∗ ∃ W', owes (c : Thread nD τ) 0 W') -∗ K ⟨⟩))
      ⊢ wp frame (wpE (defs₀ (F := F)) Variants.none c none) Set.univ (body i arg2 harg2 arg11 harg11) K := by
  unfold body; rw [cc0__main_body_eq_skeleton]; unfold cc0__main_body_skel; unfold owns
  iintro ⟨⟨%fx, %ex, Hx⟩, ⟨%fX, %eX, HX⟩, ⟨%fS, %eS, HS⟩, ⟨%fG, %eG, HG⟩, HW, Hk⟩
  sl_exec
  sl_step
  iapply Hk
  isplitl [Hx]
  · iexists fx; isplitr; swap; · iexact Hx
    ipureintro; exact ex
  isplitl [HX]
  · iexists _; isplitr; swap
    · iexists _; isplitr; swap; · iexact HX
      ipureintro; rfl
    ipureintro
    have e := (View.readAt_full (Val := Elt F) arg2.view fx inb_S8192x128_S8192x128_0_0).trans ex
    rw [e, ← eX]
    exact put_of_writes sX i hi hc2 _ _
  isplitl [HS]
  · iexists _; isplitr; swap; · iexact HS
    ipureintro
    have e := (View.readAt_full (Val := Elt F) arg2.view fx inb_S8192x128_S8192x128_0_0).trans ex
    refine (View.read_writes_full ..).trans ?_
    have e0 : runB.sl.r c arg2 fx = x := e
    have e1 : runB.sl.r_1 c i arg2 fx = k0_pay12 (BitVec.ofNat 32 (i 0).val) x := congrArg (k0_pay12 _) e
    have e2 : runB.sl.r_2 c arg2 fx = k0_pay13 x := congrArg k0_pay13 e
    have e3 : View.readAt (Elt F) sS.view (Rect.unit ![0, 0] S16x128.size inb_S16x128_S16x128_0_0).toLoadRect fS = s := (View.readAt_full (Val := Elt F) sS.view fS _).trans eS
    rw [e0, e1, e2, e3]; rfl
  isplitl [HG]
  · iexists _; isplitr; swap; · iexact HG
    ipureintro
    have e := (View.readAt_full (Val := Elt F) arg2.view fx inb_S8192x128_S8192x128_0_0).trans ex
    refine (View.read_writes_full ..).trans ?_
    have e3 : View.readAt (Elt F) sG.view (Rect.unit ![0, 0] S128x128.size inb_S128x128_S128x128_0_0).toLoadRect fG = g := (View.readAt_full (Val := Elt F) sG.view fG _).trans eG
    rw [e, e3]
  iexists _; iexact HW

end Cert.KernelIdeal.Hand
end
-- ==== Proof.Ideal.RunC.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.Setup
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- The fourth point: the last block taken in, the nine copies awaited, the scaled weights and the offsets left. -/
theorem runC (c : Dev nD) (i : grid0.Coords) (hi : (i 0).val < 4)
    (hc1 : ¬ Scalar.cmpi .ne (Scalar.extui (Scalar.cmpi .eq (BitVec.ofNat 32 (i 0).val) 0#32)) 0#32 = 1#1)
    (hc3 : Scalar.cmpi .ne (Scalar.extui (Scalar.cmpi .eq (BitVec.ofNat 32 (i 0).val) 3#32)) 0#32 = 1#1)
    (hc2 : k0_cond2 i = 1#1) (hc4 : ¬ k0_cond4 i = 1#1)
    (arg2 : Memref sig .tc .vmem S8192x128 .f32) (harg2 : arg2.IsWhole)
    (arg11 : Memref sig .tc .vmem S8192x128 .f32) (harg11 : arg11.IsWhole)
    (x : Vec F S8192x128 .f32) (X₀ : Vec F S32768x128 .bf16) (s : Vec F S16x128 .f32) (g : Vec F S128x128 .f32)
    (gW1 : Buf (Elt F) (hW1.view.loc (c : Thread nD τ)))
    (gW2 : Buf (Elt F) (hW2.view.loc (c : Thread nD τ)))
    (gW3 : Buf (Elt F) (hW3.view.loc (c : Thread nD τ)))
    (gb3 : Buf (Elt F) (hb3.view.loc (c : Thread nD τ)))
    (gb1 : Buf (Elt F) (hb1.view.loc (c : Thread nD τ)))
    (gb2 : Buf (Elt F) (hb2.view.loc (c : Thread nD τ)))
    (gg1 : Buf (Elt F) (hg1.view.loc (c : Thread nD τ)))
    (gbe : Buf (Elt F) (hbe.view.loc (c : Thread nD τ)))
    (gY : Buf (Elt F) (hY.view.loc (c : Thread nD τ)))
    (W : Waits sig Unit) (K : PUnit → sProp 𝕄) :
    iprop(owns (c : Thread nD τ) arg2 fullShare x ∗ owns (c : Thread nD τ) sX fullShare X₀ ∗ owns (c : Thread nD τ) sS fullShare s ∗ owns (c : Thread nD τ) sG fullShare g
        ∗ (∃ d, owns (c : Thread nD τ) sO fullShare d) ∗ (∃ d, owns (c : Thread nD τ) sW fullShare d)
        ∗ (fl c 4 20480 hW1 sW1 gW1 ∗ fl c 5 2048 hW2 sW2 gW2 ∗ fl c 6 2048 hW3 sW3 gW3 ∗ fl c 7 128 hb3 sb3 gb3 ∗ fl c 8 16 hb1 sb1 gb1 ∗ fl c 9 16 hb2 sb2 gb2 ∗ fl c 10 16 hg1 sg1 gg1 ∗ fl c 11 16 hbe sbe gbe ∗ fl c 12 256 hY sY gY)
        ∗ owes (c : Thread nD τ) 0 W
        ∗ (iprop(owns (c : Thread nD τ) arg2 fullShare x
            ∗ (∃ X, ⌜Put (i 0).val (k0_pay10 x) X₀ X⌝ ∗ owns (c : Thread nD τ) sX fullShare X)
            ∗ (∃ d, owns (c : Thread nD τ) sS fullShare d) ∗ (∃ d, owns (c : Thread nD τ) sG fullShare d)
            ∗ owns (c : Thread nD τ) sO fullShare (offsV ⟨hW1.view.read (Elt F) gW1, hW2.view.read (Elt F) gW2, hW3.view.read (Elt F) gW3, hb3.view.read (Elt F) gb3, hb1.view.read (Elt F) gb1, hb2.view.read (Elt F) gb2, hg1.view.read (Elt F) gg1, hbe.view.read (Elt F) gbe, hY.view.read (Elt F) gY⟩ (segStep i x s) (k0_pay11 x g))
            ∗ owns (c : Thread nD τ) sW fullShare (w1sV ⟨hW1.view.read (Elt F) gW1, hW2.view.read (Elt F) gW2, hW3.view.read (Elt F) gW3, hb3.view.read (Elt F) gb3, hb1.view.read (Elt F) gb1, hb2.view.read (Elt F) gb2, hg1.view.read (Elt F) gg1, hbe.view.read (Elt F) gbe, hY.view.read (Elt F) gY⟩ (segStep i x s) (k0_pay11 x g))
            ∗ (pt c hW1 gW1 ∗ pt c hW2 gW2 ∗ pt c hW3 gW3 ∗ pt c hb3 gb3 ∗ pt c hb1 gb1 ∗ pt c hb2 gb2 ∗ pt c hg1 gg1 ∗ pt c hbe gbe ∗ pt c hY gY)
            ∗ ((∃ d, owns (c : Thread nD τ) sW1 fullShare d) ∗ (∃ d, owns (c : Thread nD τ) sW2 fullShare d) ∗ (∃ d, owns (c : Thread nD τ) sW3 fullShare d) ∗ (∃ d, owns (c : Thread nD τ) sb3 fullShare d) ∗ (∃ d, owns (c : Thread nD τ) sb1 fullShare d) ∗ (∃ d, owns (c : Thread nD τ) sb2 fullShare d) ∗ (∃ d, owns (c : Thread nD τ) sg1 fullShare d) ∗ (∃ d, owns (c : Thread nD τ) sbe fullShare d) ∗ (∃ d, owns (c : Thread nD τ) sY fullShare d))
            ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
            ∗ ∃ W', owes (c : Thread nD τ) 0 W') -∗ K ⟨⟩))
      ⊢ wp frame (wpE (defs₀ (F := F)) Variants.none c none) Set.univ (body i arg2 harg2 arg11 harg11) K := by
  unfold body; rw [cc0__main_body_eq_skeleton]; unfold cc0__main_body_skel; unfold owns
  unfold fl
  iintro ⟨⟨%fx, %ex, Hx⟩, ⟨%fX, %eX, HX⟩, ⟨%fS, %eS, HS⟩, ⟨%fG, %eG, HG⟩, ⟨%dO, %fO, -, HO⟩, ⟨%dV, %fV, -, HV⟩, ⟨⟨QW1, HW1⟩, ⟨QW2, HW2⟩, ⟨QW3, HW3⟩, ⟨Qb3, Hb3⟩, ⟨Qb1, Hb1⟩, ⟨Qb2, Hb2⟩, ⟨Qg1, Hg1⟩, ⟨Qbe, Hbe⟩, ⟨QY, HY⟩⟩, HW, Hk⟩
  sl_exec
  sl_step
  have e := (View.readAt_full (Val := Elt F) arg2.view fx inb_S8192x128_S8192x128_0_0).trans ex
  have hS : runC.sl.v37 c i arg2 fx fS = segStep i x s := by
    refine (View.readCov_full ..).trans ?_
    have e0 : runC.sl.r c arg2 fx = x := e
    have e1 : runC.sl.r_1 c i arg2 fx = k0_pay12 (BitVec.ofNat 32 (i 0).val) x := congrArg (k0_pay12 _) e
    have e2 : runC.sl.r_2 c arg2 fx = k0_pay13 x := congrArg k0_pay13 e
    have e3 : View.readAt (Elt F) sS.view (Rect.unit ![0, 0] S16x128.size inb_S16x128_S16x128_0_0).toLoadRect fS = s := (View.readAt_full (Val := Elt F) sS.view fS _).trans eS
    rw [e0, e1, e2, e3]; rfl
  have hG : runC.sl.v67 c arg2 fx fG = k0_pay11 x g := by
    refine (View.readCov_full ..).trans ?_
    have e3 : View.readAt (Elt F) sG.view (Rect.unit ![0, 0] S128x128.size inb_S128x128_S128x128_0_0).toLoadRect fG = g := (View.readAt_full (Val := Elt F) sG.view fG _).trans eG
    rw [e, e3]
  iapply Hk
  isplitl [Hx]
  · iexists fx; isplitr; swap; · iexact Hx
    ipureintro; exact ex
  isplitl [HX]
  · iexists _; isplitr; swap
    · iexists _; isplitr; swap; · iexact HX
      ipureintro; rfl
    ipureintro
    rw [e, ← eX]
    exact put_of_writes sX i hi hc2 _ _
  isplitl [HS]
  · iexists _, _; isplitr; swap; · iexact HS
    ipureintro; rfl
  isplitl [HG]
  · iexists _, _; isplitr; swap; · iexact HG
    ipureintro; rfl
  isplitl [HO]
  · iexists _; isplitr; swap; · iexact HO
    ipureintro
    refine (View.read_writes_full ..).trans ?_
    delta runC.sl.r_8 runC.sl.r_9 runC.sl.r_10 runC.sl.r_11 runC.sl.r_12 runC.sl.r_13 runC.sl.r_14 runC.sl.r_3 runC.sl.r_4 runC.sl.r_5 runC.sl.r_6 runC.sl.r_7
    rw [rep_full sbe, rep_full sg1, rep_full sb1, rep_full sb2, rep_full sW2, rep_full sY, rep_full sW3, rep_full sb3, rep_ld sW1, rep_ld sW1, rep_ld sW1, hS, hG]
    rfl
  isplitl [HV]
  · iexists _; isplitr; swap; · iexact HV
    ipureintro
    refine (View.read_writes_full ..).trans ?_
    delta runC.sl.r_8 runC.sl.r_10 runC.sl.r_11 runC.sl.r_12 runC.sl.r_13 runC.sl.r_14 runC.sl.r_3 runC.sl.r_4 runC.sl.r_5 runC.sl.r_6 runC.sl.r_7
    rw [rep_full sg1, rep_full sb1, rep_full sb2, rep_full sW2, rep_full sY, rep_full sW3, rep_full sb3, rep_ld sW1, rep_ld sW1, rep_ld sW1, hS, hG]
    rfl
  isplitl [HW1 HW2 HW3 Hb3 Hb1 Hb2 Hg1 Hbe HY]
  · isplitl [HW1]; · iexact HW1
    isplitl [HW2]; · iexact HW2
    isplitl [HW3]; · iexact HW3
    isplitl [Hb3]; · iexact Hb3
    isplitl [Hb1]; · iexact Hb1
    isplitl [Hb2]; · iexact Hb2
    isplitl [Hg1]; · iexact Hg1
    isplitl [Hbe]; · iexact Hbe
    iexact HY
  isplitl [QW1_dst QW2_dst QW3_dst Qb3_dst Qb1_dst Qb2_dst Qg1_dst Qbe_dst QY_dst]
  · isplitl [QW1_dst]
    · iexists _, _; isplitr; swap; · iexact QW1_dst
      ipureintro; rfl
    isplitl [QW2_dst]
    · iexists _, _; isplitr; swap; · iexact QW2_dst
      ipureintro; rfl
    isplitl [QW3_dst]
    · iexists _, _; isplitr; swap; · iexact QW3_dst
      ipureintro; rfl
    isplitl [Qb3_dst]
    · iexists _, _; isplitr; swap; · iexact Qb3_dst
      ipureintro; rfl
    isplitl [Qb1_dst]
    · iexists _, _; isplitr; swap; · iexact Qb1_dst
      ipureintro; rfl
    isplitl [Qb2_dst]
    · iexists _, _; isplitr; swap; · iexact Qb2_dst
      ipureintro; rfl
    isplitl [Qg1_dst]
    · iexists _, _; isplitr; swap; · iexact Qg1_dst
      ipureintro; rfl
    isplitl [Qbe_dst]
    · iexists _, _; isplitr; swap; · iexact Qbe_dst
      ipureintro; rfl
    iexists _, _; isplitr; swap; · iexact QY_dst
    ipureintro; rfl
  isplitl [QW1 QW2 QW3 Qb3 Qb1 Qb2 Qg1 Qbe QY]
  · isplitl [QW1]; · iexact QW1
    isplitl [QW2]; · iexact QW2
    isplitl [QW3]; · iexact QW3
    isplitl [Qb3]; · iexact Qb3
    isplitl [Qb1]; · iexact Qb1
    isplitl [Qb2]; · iexact Qb2
    isplitl [Qg1]; · iexact Qg1
    isplitl [Qbe]; · iexact Qbe
    iexact QY
  iexists _; iexact HW

end Cert.KernelIdeal.Hand
end
-- ==== Proof.Ideal.RunD.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.Setup
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-- A point of the second half: four groups of rows of the result stored. -/
theorem runD (c : Dev nD) (i : grid0.Coords) (hi : 4 ≤ (i 0).val)
    (hc1 : ¬ Scalar.cmpi .ne (Scalar.extui (Scalar.cmpi .eq (BitVec.ofNat 32 (i 0).val) 0#32)) 0#32 = 1#1)
    (hc3 : ¬ Scalar.cmpi .ne (Scalar.extui (Scalar.cmpi .eq (BitVec.ofNat 32 (i 0).val) 3#32)) 0#32 = 1#1)
    (hc2 : ¬ k0_cond2 i = 1#1) (hc4 : k0_cond4 i = 1#1)
    (arg2 : Memref sig .tc .vmem S8192x128 .f32) (harg2 : arg2.IsWhole)
    (arg11 : Memref sig .tc .vmem S8192x128 .f32) (harg11 : arg11.IsWhole)
    (X : Vec F S32768x128 .bf16) (f : Vec F S16x128 .f32) (w : Vec F S128x128 .bf16)
    (W : Waits sig Unit) (K : PUnit → sProp 𝕄) :
    iprop((∃ d, owns (c : Thread nD τ) arg11 fullShare d) ∗ owns (c : Thread nD τ) sX fullShare X ∗ owns (c : Thread nD τ) sO fullShare f ∗ owns (c : Thread nD τ) sW fullShare w
        ∗ owes (c : Thread nD τ) 0 W
        ∗ (iprop(owns (c : Thread nD τ) arg11 fullShare (outBlk i w f X) ∗ owns (c : Thread nD τ) sX fullShare X ∗ owns (c : Thread nD τ) sO fullShare f ∗ owns (c : Thread nD τ) sW fullShare w
            ∗ ∃ W', owes (c : Thread nD τ) 0 W') -∗ K ⟨⟩))
      ⊢ wp frame (wpE (defs₀ (F := F)) Variants.none c none) Set.univ (body i arg2 harg2 arg11 harg11) K := by
  unfold body; rw [cc0__main_body_eq_skeleton]; unfold cc0__main_body_skel; unfold owns
  iintro ⟨⟨%dR, %fR, -, HR⟩, ⟨%fX, %eX, HX⟩, ⟨%fO, %eO, HO⟩, ⟨%fV, %eV, HV⟩, HW, Hk⟩
  sl_exec
  sl_step
  have eW : ∀ inb, View.readAt (Elt F) sW.view (Rect.unit ![0, 0] S128x128.size inb).toLoadRect fV = w := fun inb => (View.readAt_full (Val := Elt F) sW.view fV inb).trans eV
  have eF : ∀ inb, View.readAt (Elt F) sO.view (Rect.unit ![0, 0] S16x128.size inb).toLoadRect fO = f := fun inb => (View.readAt_full (Val := Elt F) sO.view fO inb).trans eO
  have eR : ∀ (b : BitVec 32) (n : ℕ) (hn : k0_off2 i b = ![n, 0]) inb,
      View.readAt (Elt F) sX.view (Rect.unit (s := S32768x128) (k0_off2 i b) S2048x128.size inb).toLoadRect fX = rowsAt X n := fun b n hn inb => by
    rw [← eX]; exact ld_rows _ _ n hn inb
  iapply Hk
  isplitl [HR]
  · iexists _; isplitr; swap; · iexact HR
    ipureintro
    refine (View.read_writes_eq_canon _ _ _ ?_).trans ?_
    · exact View.cover_of_tiledL _ S2048x128.size (by rfl)
    have e0 : runD.sl.r c fV = w := eW _
    have e1 : runD.sl.r_1 c i fO = k0_pay21 (BitVec.ofNat 32 (i 0).val) f := congrArg (k0_pay21 _) (eF _)
    have e2 : runD.sl.r_2 c i fO = k0_pay24 (Scalar.subi (BitVec.ofNat 32 (i 0).val) 4#32) (iota .tc S16x128 32 [0] iota_S16x128_d0_w32) f :=
      congrArg (k0_pay24 (Scalar.subi (BitVec.ofNat 32 (i 0).val) 4#32) (iota .tc S16x128 32 [0] iota_S16x128_d0_w32)) (eF _)
    rw [e0, e1, e2, eW, eF, eR 0#32 (8192 * ((i 0).val - 4)) (k0_off2_val i hi 0), eR 2048#32 (8192 * ((i 0).val - 4) + 2048) (k0_off2_val i hi 1), eR 4096#32 (8192 * ((i 0).val - 4) + 4096) (k0_off2_val i hi 2), eR 6144#32 (8192 * ((i 0).val - 4) + 6144) (k0_off2_val i hi 3)]
    rfl
  isplitl [HX]
  · iexists _; isplitr; swap; · iexact HX
    ipureintro; exact eX
  isplitl [HO]
  · iexists _; isplitr; swap; · iexact HO
    ipureintro; exact eO
  isplitl [HV]
  · iexists _; isplitr; swap; · iexact HV
    ipureintro; exact eV
  iexists _; iexact HW

end Cert.KernelIdeal.Hand
end
-- ==== Proof.Ideal.Inv.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.RunA
public import proofs.«01_k».proof.Proof.Ideal.RunB
public import proofs.«01_k».proof.Proof.Ideal.RunC
public import proofs.«01_k».proof.Proof.Ideal.RunD
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own cells and the operands it copies -/

/-- The nine cells the operands' copies complete on, by their numbers in the pool. -/
abbrev osem0 : Fin 9 → SemLoc sig := fun j => (![SemLoc.dma 4, SemLoc.dma 5, SemLoc.dma 6, SemLoc.dma 7, SemLoc.dma 8, SemLoc.dma 9, SemLoc.dma 10, SemLoc.dma 11, SemLoc.dma 12] : Fin 9 → SemLoc sig) j

/-- The kernel's own counters are apart from the launch's. -/
theorem ownSemFacts0 : Pipeline.OwnSemFacts spec0 osem0 := by decide

/-- The nine counters of the copies, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6, 7, 8] (by decide) (by decide)]; rfl

/-- The nine operands left in HBM. -/
def H0 : Finset (Ref sig .tc) := {main_arg4, main_arg8, main_arg10, main_v1, main_v2, main_v3, main_v4, main_v5, main_v0}

/-- The operands left in main memory are no window's array. -/
theorem H0_sub : H0 ⊆ Pipeline.restRefs sig spec0 := by decide

/-- Those operands, one by one. -/
theorem hbmPts0_eq (c : Dev nD) :
    (bigSep H0 (fun b => ((c : Thread nD τ).loc b) ↦{fullShare} V m c b) : sProp 𝕄) = iprop(pt c hW1 (V m c main_arg4) ∗ pt c hW2 (V m c main_arg8) ∗ pt c hW3 (V m c main_arg10) ∗ pt c hb3 (V m c main_v1) ∗ pt c hb1 (V m c main_v2) ∗ pt c hb2 (V m c main_v3) ∗ pt c hg1 (V m c main_v4) ∗ pt c hbe (V m c main_v5) ∗ pt c hY (V m c main_v0)) := by
  rw [BI.bigSep_eq_bigSepL_of_eq [main_arg4, main_arg8, main_arg10, main_v1, main_v2, main_v3, main_v4, main_v5, main_v0] (by decide) (by decide)]; rfl

/-- What the first point starts from, conjunct by conjunct. -/
theorem PhiD0_eq (c : Dev nD) :
    (Pipeline.ΦD osem0 spec0 H0 (V m) c : sProp 𝕄)
      = iprop(((∃ d, owns (c : Thread nD τ) sX fullShare d) ∗ (∃ d, owns (c : Thread nD τ) sS fullShare d) ∗ (∃ d, owns (c : Thread nD τ) sG fullShare d) ∗ (∃ d, owns (c : Thread nD τ) sO fullShare d) ∗ (∃ d, owns (c : Thread nD τ) sW fullShare d) ∗ (∃ d, owns (c : Thread nD τ) sW1 fullShare d) ∗ (∃ d, owns (c : Thread nD τ) sW2 fullShare d) ∗ (∃ d, owns (c : Thread nD τ) sW3 fullShare d) ∗ (∃ d, owns (c : Thread nD τ) sb3 fullShare d) ∗ (∃ d, owns (c : Thread nD τ) sb1 fullShare d) ∗ (∃ d, owns (c : Thread nD τ) sb2 fullShare d) ∗ (∃ d, owns (c : Thread nD τ) sg1 fullShare d) ∗ (∃ d, owns (c : Thread nD τ) sbe fullShare d) ∗ (∃ d, owns (c : Thread nD τ) sY fullShare d))
          ∗ (∃ r, prngReg c r) ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ (pt c hW1 (V m c main_arg4) ∗ pt c hW2 (V m c main_arg8) ∗ pt c hW3 (V m c main_arg10) ∗ pt c hb3 (V m c main_v1) ∗ pt c hb1 (V m c main_v2) ∗ pt c hb2 (V m c main_v3) ∗ pt c hg1 (V m c main_v4) ∗ pt c hbe (V m c main_v5) ∗ pt c hY (V m c main_v0))) := by
  rw [Pipeline.ΦD_eq, scopedRest0_eq, ownSems00_eq, hbmPts0_eq]
  simp only [sX, sS, sG, sO, sW, sW1, sW2, sW3, sb3, sb1, sb2, sg1, sbe, sY, owns_whole]
  try rfl

/-! ## What holds between the points -/

/-- The blocks of tokens the points are handed. -/
abbrev xs (c : Dev nD) : Fin cfg0.N → Vec F S8192x128 .f32 := fun t => iblk m c 0 t

/-- The nine operands as the region finds them. -/
def ops (c : Dev nD) : Ops F :=
  ⟨hW1.view.read (Elt F) (V m c main_arg4), hW2.view.read (Elt F) (V m c main_arg8), hW3.view.read (Elt F) (V m c main_arg10), hb3.view.read (Elt F) (V m c main_v1), hb1.view.read (Elt F) (V m c main_v2), hb2.view.read (Elt F) (V m c main_v3), hg1.view.read (Elt F) (V m c main_v4), hbe.view.read (Elt F) (V m c main_v5), hY.view.read (Elt F) (V m c main_v0)⟩

/-- Where row `y` of the kept tokens lies in its block. -/
def inBlk (y : S32768x128.Idx) : S8192x128.Idx :=
  Fin.cons (⟨(y 0).val % 8192, Nat.mod_lt _ (by decide)⟩ : Fin 8192) (Fin.cons (⟨(y 1).val % 128, Nat.mod_lt _ (by decide)⟩ : Fin 128) finZeroElim)

/-- The block of a row is one of the grid's. -/
theorem blk_lt (y : S32768x128.Idx) : (y 0).val / 8192 < cfg0.N := by
  have h : (y 0).val < 32768 := (y 0).isLt
  have h8 : cfg0.N = 8 := N_0
  omega

/-- All the kept tokens: row `y` is its row of the block it lies in, in the shorter format. -/
def tok (x : Fin cfg0.N → Vec F S8192x128 .f32) : Vec F S32768x128 .bf16 := fun y => k0_pay10 (x ⟨(y 0).val / 8192, blk_lt y⟩) (inBlk y)

/-- `X` holds the kept tokens of the first `p` blocks. -/
def Kept (x : Fin cfg0.N → Vec F S8192x128 .f32) (p : ℕ) (X : Vec F S32768x128 .bf16) : Prop :=
  ∀ y : S32768x128.Idx, (y 0).val < 8192 * p → X y = tok x y

/-- Storing a block's rows keeps one block more. -/
theorem kept_succ (x : Fin cfg0.N → Vec F S8192x128 .f32) (t : Fin cfg0.N) (n : ℕ) (hn : n = t.val) {X₀ X : Vec F S32768x128 .bf16}
    (h : Put n (k0_pay10 (x t)) X₀ X) (h₀ : Kept x t.val X₀) : Kept x (t.val + 1) X := by
  subst hn
  intro y hy
  by_cases hl : (y 0).val < 8192 * t.val
  · exact (h.2 y hl).trans (h₀ y hl)
  · have hd : (y 0).val / 8192 = t.val := by omega
    have ht : (⟨(y 0).val / 8192, blk_lt y⟩ : Fin cfg0.N) = t := Fin.ext hd
    unfold tok
    rw [ht]
    refine h.1 y (inBlk y) ?_ ?_
    · show (y 0).val = 8192 * t.val + (y 0).val % 8192
      omega
    · show (y 1).val = (y 1).val % 128
      have h1 : (y 1).val < 128 := (y 1).isLt
      omega

/-- After four blocks every token is kept. -/
theorem kept_all {x : Fin cfg0.N → Vec F S8192x128 .f32} {X : Vec F S32768x128 .bf16} (h : Kept x 4 X) : X = tok x :=
  funext fun y => h y (by have h : (y 0).val < 32768 := (y 0).isLt; omega)

/-- Between two points of the first half, `p` blocks taken in: the tokens of those blocks kept, the two accumulators at
    their partial sums, the nine copies in flight. -/
def mid (c : Dev nD) (p : ℕ) : sProp 𝕄 :=
  iprop((∃ X, ⌜Kept (xs m c) p X⌝ ∗ owns (c : Thread nD τ) sX fullShare X) ∗ owns (c : Thread nD τ) sS fullShare (segAt (xs m c) p) ∗ owns (c : Thread nD τ) sG fullShare (gramAt (xs m c) p)
    ∗ (∃ d, owns (c : Thread nD τ) sO fullShare d) ∗ (∃ d, owns (c : Thread nD τ) sW fullShare d) ∗ (fl c 4 20480 hW1 sW1 (V m c main_arg4) ∗ fl c 5 2048 hW2 sW2 (V m c main_arg8) ∗ fl c 6 2048 hW3 sW3 (V m c main_arg10) ∗ fl c 7 128 hb3 sb3 (V m c main_v1) ∗ fl c 8 16 hb1 sb1 (V m c main_v2) ∗ fl c 9 16 hb2 sb2 (V m c main_v3) ∗ fl c 10 16 hg1 sg1 (V m c main_v4) ∗ fl c 11 16 hbe sbe (V m c main_v5) ∗ fl c 12 256 hY sY (V m c main_v0)) ∗ (∃ r, prngReg c r))

/-- From the fourth point on: every token kept, the scaled weights and the offsets of the segments in place, the copies done. -/
def late (c : Dev nD) : sProp 𝕄 :=
  iprop(owns (c : Thread nD τ) sX fullShare (tok (xs m c)) ∗ (∃ d, owns (c : Thread nD τ) sS fullShare d) ∗ (∃ d, owns (c : Thread nD τ) sG fullShare d)
    ∗ owns (c : Thread nD τ) sO fullShare (offsV (ops m c) (segAt (xs m c) 4) (gramAt (xs m c) 4))
    ∗ owns (c : Thread nD τ) sW fullShare (w1sV (ops m c) (segAt (xs m c) 4) (gramAt (xs m c) 4))
    ∗ ((∃ d, owns (c : Thread nD τ) sW1 fullShare d) ∗ (∃ d, owns (c : Thread nD τ) sW2 fullShare d) ∗ (∃ d, owns (c : Thread nD τ) sW3 fullShare d) ∗ (∃ d, owns (c : Thread nD τ) sb3 fullShare d) ∗ (∃ d, owns (c : Thread nD τ) sb1 fullShare d) ∗ (∃ d, owns (c : Thread nD τ) sb2 fullShare d) ∗ (∃ d, owns (c : Thread nD τ) sg1 fullShare d) ∗ (∃ d, owns (c : Thread nD τ) sbe fullShare d) ∗ (∃ d, owns (c : Thread nD τ) sY fullShare d)) ∗ (∃ r, prngReg c r) ∗ (semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ (pt c hW1 (V m c main_arg4) ∗ pt c hW2 (V m c main_arg8) ∗ pt c hW3 (V m c main_arg10) ∗ pt c hb3 (V m c main_v1) ∗ pt c hb1 (V m c main_v2) ∗ pt c hb2 (V m c main_v3) ∗ pt c hg1 (V m c main_v4) ∗ pt c hbe (V m c main_v5) ∗ pt c hY (V m c main_v0)))

/-- What holds before point `n` (after the last point, for `n` the number of points). -/
def PhiAt (c : Dev nD) (n : ℕ) : sProp 𝕄 :=
  if n = 0 then Pipeline.ΦD osem0 spec0 H0 (V m) c else if n < 4 then mid m c n else late m c

/-- The invariant inside the first half. -/
theorem PhiAt_mid (c : Dev nD) (n : ℕ) (h : n ≠ 0) (h4 : n < 4) : PhiAt m c n = mid m c n := by
  unfold PhiAt; rw [if_neg h, if_pos h4]
/-- The invariant from the fourth point on. -/
theorem PhiAt_late (c : Dev nD) (n : ℕ) (h4 : 4 ≤ n) : PhiAt m c n = late m c := by
  unfold PhiAt; rw [if_neg (by omega), if_neg (by omega)]

/-- The last state gives back what the region was entered with. -/
theorem late_out (c : Dev nD) : late m c ⊢ Pipeline.ΦD osem0 spec0 H0 (V m) c := by
  rw [PhiD0_eq]; unfold late
  iintro ⟨HX, HS, HG, HO, HV, ⟨SW1, SW2, SW3, Sb3, Sb1, Sb2, Sg1, Sbe, SY⟩, Hr, ⟨QW1, QW2, QW3, Qb3, Qb1, Qb2, Qg1, Qbe, QY⟩, ⟨HW1, HW2, HW3, Hb3, Hb1, Hb2, Hg1, Hbe, HY⟩⟩
  isplitl [HX HS HG HO HV SW1 SW2 SW3 Sb3 Sb1 Sb2 Sg1 Sbe SY]
  · isplitl [HX]; · iexists _; iexact HX
    isplitl [HS]; · iexact HS
    isplitl [HG]; · iexact HG
    isplitl [HO]; · iexists _; iexact HO
    isplitl [HV]; · iexists _; iexact HV
    isplitl [SW1]; · iexact SW1
    isplitl [SW2]; · iexact SW2
    isplitl [SW3]; · iexact SW3
    isplitl [Sb3]; · iexact Sb3
    isplitl [Sb1]; · iexact Sb1
    isplitl [Sb2]; · iexact Sb2
    isplitl [Sg1]; · iexact Sg1
    isplitl [Sbe]; · iexact Sbe
    iexact SY
  isplitl [Hr]; · iexact Hr
  isplitl [QW1 QW2 QW3 Qb3 Qb1 Qb2 Qg1 Qbe QY]
  · isplitl [QW1]; · iexact QW1
    isplitl [QW2]; · iexact QW2
    isplitl [QW3]; · iexact QW3
    isplitl [Qb3]; · iexact Qb3
    isplitl [Qb1]; · iexact Qb1
    isplitl [Qb2]; · iexact Qb2
    isplitl [Qg1]; · iexact Qg1
    isplitl [Qbe]; · iexact Qbe
    iexact QY
  isplitl [HW1]; · iexact HW1
  isplitl [HW2]; · iexact HW2
  isplitl [HW3]; · iexact HW3
  isplitl [Hb3]; · iexact Hb3
  isplitl [Hb1]; · iexact Hb1
  isplitl [Hb2]; · iexact Hb2
  isplitl [Hg1]; · iexact Hg1
  isplitl [Hbe]; · iexact Hbe
  iexact HY

/-! ## The proof data -/

/-- The window of tokens is left as found; the result's window is left at its block in the second half. -/
def dats (_ : Fin 1) (c : Dev nD) : Dat τ (Elt F) Unit ℕ (Pipeline.UD sig nD τ) ℕ cfg0 c where
  A w := V m c (Pipeline.arrRef spec0 w)
  after w t := match w with
    | 0 => iblk m c 0 t
    | 1 => outBlk (grid0.coords t) (w1sV (ops m c) (segAt (xs m c) 4) (gramAt (xs m c) 4)) (offsV (ops m c) (segAt (xs m c) 4) (gramAt (xs m c) 4)) (tok (xs m c))
    | ⟨_ + 2, h⟩ => absurd h (Nat.not_lt.2 (Nat.le_add_left _ _))
  Φ t := PhiAt m c t.val
  q _ := fullShare
  owed _ := 0

/-- Each window's array starts as the region finds it. -/
theorem A_eq (c : Dev nD) (w : Fin cfg0.W) : (dats m 0 c).A w = V m c (Pipeline.arrRef spec0 w) := by dsimp only [dats]
/-- The tokens' window is left as found. -/
theorem after0_eq (c : Dev nD) (t : Fin cfg0.N) : (dats m 0 c).after 0 t = xs m c t := by dsimp only [dats]
/-- What the result's window is left at. -/
theorem after1_eq (c : Dev nD) (t : Fin cfg0.N) : (dats m 0 c).after 1 t
    = outBlk (grid0.coords t) (w1sV (ops m c) (segAt (xs m c) 4) (gramAt (xs m c) 4)) (offsV (ops m c) (segAt (xs m c) 4) (gramAt (xs m c) 4)) (tok (xs m c)) := by
  dsimp only [dats]
/-- The invariant before a point. -/
theorem Phi_castSucc (c : Dev nD) (t : Fin cfg0.N) : (dats m 0 c).Φ t.castSucc = PhiAt m c t.val := by
  dsimp only [dats]; exact Pipeline.Dat.Φ_castSucc (fun n _ => PhiAt m c n) t
/-- The invariant after it. -/
theorem Phi_succ (c : Dev nD) (t : Fin cfg0.N) : (dats m 0 c).Φ t.succ = PhiAt m c (t.val + 1) := by
  dsimp only [dats]; rw [Fin.val_succ]

/-- The window of tokens is on its block at every point. -/
theorem before0_eq (c : Dev nD) (t : Fin cfg0.N) (d) : (dats m 0 c).before 0 t d = xs m c t :=
  ((dats m 0 c).before_in_eq_fetched 0 rfl (fun _ => rfl) (fun _ _ _ => rfl)
    (fun t => by rw [after0_eq]; unfold Dat.blockOf xs iblk; rw [A_eq]; try rfl) t d).trans
    (by unfold Dat.fetched Dat.blockOf xs iblk; rw [A_eq]; try rfl)

/-! ## The conditions at a point -/

/-- A point's coordinate is its number. -/
theorem coords_val (t : Fin cfg0.N) : (grid0.coords t 0).val = t.val := by
  rcases fin_N0 t with h | h | h | h | h | h | h | h <;> rw [h] <;> decide

/-- The first branch is taken at the first point alone. -/
theorem cond1_iff (i : grid0.Coords) :
    Scalar.cmpi .ne (Scalar.extui (Scalar.cmpi .eq (BitVec.ofNat 32 (i 0).val) 0#32)) 0#32 = 1#1 ↔ (i 0).val = 0 := by
  have h : (i 0).val < 8 := (i 0).isLt
  generalize (i 0).val = n at h ⊢
  revert n; decide
/-- The third at the fourth point alone. -/
theorem cond3_iff (i : grid0.Coords) :
    Scalar.cmpi .ne (Scalar.extui (Scalar.cmpi .eq (BitVec.ofNat 32 (i 0).val) 3#32)) 0#32 = 1#1 ↔ (i 0).val = 3 := by
  have h : (i 0).val < 8 := (i 0).isLt
  generalize (i 0).val = n at h ⊢
  revert n; decide
/-- The second in the first half. -/
theorem cond2_iff (i : grid0.Coords) : k0_cond2 i = 1#1 ↔ (i 0).val < 4 := by
  unfold k0_cond2
  have h : (i 0).val < 8 := (i 0).isLt
  generalize (i 0).val = n at h ⊢
  revert n; decide
/-- The fourth in the second half. -/
theorem cond4_iff (i : grid0.Coords) : k0_cond4 i = 1#1 ↔ 4 ≤ (i 0).val := by
  unfold k0_cond4
  have h : (i 0).val < 8 := (i 0).isLt
  generalize (i 0).val = n at h ⊢
  revert n; decide

/-- One block more in the first accumulator. -/
theorem segAt_succ (x : Fin cfg0.N → Vec F S8192x128 .f32) (t : Fin cfg0.N) :
    segAt x (t.val + 1) = segStep (grid0.coords t) (x t) (segAt x t.val) := dif_pos t.isLt
/-- One block more in the second. -/
theorem gramAt_succ (x : Fin cfg0.N → Vec F S8192x128 .f32) (t : Fin cfg0.N) :
    gramAt x (t.val + 1) = k0_pay11 (x t) (gramAt x t.val) := dif_pos t.isLt

end Cert.KernelIdeal.Hand
end
-- ==== Proof.Ideal.Body.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.Inv
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
/-- What it returns in the first half: the result's window as it was found. -/
def postEarly (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ (∃ d, owns (c : Thread nD τ) (win0_1.stage (cfg0.slots t 1)) fullShare ((dats m 0 c).before 1 t d)))
/-- What it returns in the second half: the result's window at its block. -/
def postLate (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

/-- The first point. -/
theorem soundA (c : Dev nD) (t : Fin cfg0.N) (ht : t.val = 0) :
    bodyPre m c t ⊢ wp frame (wpE (defs₀ (F := F)) Variants.none c none) Set.univ (bodyAt0 t) (fun _ => postEarly m c t) := by
  have hi : (grid0.coords t 0).val = t.val := coords_val t
  unfold bodyPre postEarly bodyAt0
  rw [Phi_castSucc, Phi_succ, after0_eq]
  simp only [before0_eq]
  unfold Dat.owesAt Pipeline.owesWithin
  rw [show (dats m 0 c).owed t.castSucc = 0 from rfl, show (dats m 0 c).owed t.succ = 0 from rfl]
  rw [show PhiAt m c t.val = Pipeline.ΦD osem0 spec0 H0 (V m) c from by unfold PhiAt; rw [if_pos ht], PhiD0_eq,
    PhiAt_mid m c (t.val + 1) (by omega) (by omega)]
  unfold mid
  rw [segAt_succ, gramAt_succ, show segAt (xs m c) t.val = k0_pay1 by rw [ht]; rfl, show gramAt (xs m c) t.val = k0_pay2 by rw [ht]; rfl]
  iintro ⟨⟨⟨HX, HS, HG, HO, HV, SW1, SW2, SW3, Sb3, Sb1, Sb2, Sg1, Sbe, SY⟩, Hr, ⟨QW1, QW2, QW3, Qb3, Qb1, Qb2, Qg1, Qbe, QY⟩, ⟨HW1, HW2, HW3, Hb3, Hb1, Hb2, Hg1, Hbe, HY⟩⟩, ⟨%W, %hW, HW⟩, ⟨%d0, H0⟩, H1⟩
  iapply (runA c (grid0.coords t) (hi.trans ht) (by rw [cond3_iff]; omega) ((cond2_iff _).2 (by omega)) (by rw [cond4_iff]; omega)
    (win0_0.stage (cfg0.slots t 0)) (hstage0_0 ((cfg0.slots t 0).cast nbuf0_0))
    (win0_1.stage (cfg0.slots t 1)) (hstage0_1 ((cfg0.slots t 1).cast nbuf0_1)) (xs m c t)
    (V m c main_arg4) (V m c main_arg8) (V m c main_arg10) (V m c main_v1) (V m c main_v2) (V m c main_v3) (V m c main_v4) (V m c main_v5) (V m c main_v0) W _)
  isplitl [H0]; · iexact H0
  isplitl [HX]; · iexact HX
  isplitl [HS]; · iexact HS
  isplitl [HG]; · iexact HG
  isplitl [HW1 HW2 HW3 Hb3 Hb1 Hb2 Hg1 Hbe HY]
  · isplitl [HW1]; · iexact HW1
    isplitl [HW2]; · iexact HW2
    isplitl [HW3]; · iexact HW3
    isplitl [Hb3]; · iexact Hb3
    isplitl [Hb1]; · iexact Hb1
    isplitl [Hb2]; · iexact Hb2
    isplitl [Hg1]; · iexact Hg1
    isplitl [Hbe]; · iexact Hbe
    iexact HY
  isplitl [SW1 SW2 SW3 Sb3 Sb1 Sb2 Sg1 Sbe SY]
  · isplitl [SW1]; · iexact SW1
    isplitl [SW2]; · iexact SW2
    isplitl [SW3]; · iexact SW3
    isplitl [Sb3]; · iexact Sb3
    isplitl [Sb1]; · iexact Sb1
    isplitl [Sb2]; · iexact Sb2
    isplitl [Sg1]; · iexact Sg1
    isplitl [Sbe]; · iexact Sbe
    iexact SY
  isplitl [QW1 QW2 QW3 Qb3 Qb1 Qb2 Qg1 Qbe QY]
  · isplitl [QW1]; · iexact QW1
    isplitl [QW2]; · iexact QW2
    isplitl [QW3]; · iexact QW3
    isplitl [Qb3]; · iexact Qb3
    isplitl [Qb1]; · iexact Qb1
    isplitl [Qb2]; · iexact Qb2
    isplitl [Qg1]; · iexact Qg1
    isplitl [Qbe]; · iexact Qbe
    iexact QY
  isplitl [HW]; · iexact HW
  iintro ⟨H0, HX, HS, HG, ⟨FW1, FW2, FW3, Fb3, Fb1, Fb2, Fg1, Fbe, FY⟩, ⟨%W', HO'⟩⟩
  isplitl [HX HS HG HO HV FW1 FW2 FW3 Fb3 Fb1 Fb2 Fg1 Fbe FY Hr]
  · isplitl [HX]
    · icases HX with ⟨%X₀, %X, %hP, HX⟩
      iexists X; isplitr; · ipureintro; exact kept_succ (xs m c) t _ hi hP (by rw [ht]; exact fun y hy => absurd hy (by omega))
      iexact HX
    isplitl [HS]; · iexact HS
    isplitl [HG]; · iexact HG
    isplitl [HO]; · iexact HO
    isplitl [HV]; · iexact HV
    isplitl [FW1 FW2 FW3 Fb3 Fb1 Fb2 Fg1 Fbe FY]
    · isplitl [FW1]; · iexact FW1
      isplitl [FW2]; · iexact FW2
      isplitl [FW3]; · iexact FW3
      isplitl [Fb3]; · iexact Fb3
      isplitl [Fb1]; · iexact Fb1
      isplitl [Fb2]; · iexact Fb2
      isplitl [Fg1]; · iexact Fg1
      isplitl [Fbe]; · iexact Fbe
      iexact FY
    iexact Hr
  isplitl [HO']
  · iexists W'; isplitr; · ipureintro; exact fun _ _ => Or.inl trivial
    iexact HO'
  isplitl [H0]; · iexact H0
  iexact H1

/-- The second and third points. -/
theorem soundB (c : Dev nD) (t : Fin cfg0.N) (h1 : t.val ≠ 0) (h3 : t.val < 3) :
    bodyPre m c t ⊢ wp frame (wpE (defs₀ (F := F)) Variants.none c none) Set.univ (bodyAt0 t) (fun _ => postEarly m c t) := by
  have hi : (grid0.coords t 0).val = t.val := coords_val t
  unfold bodyPre postEarly bodyAt0
  rw [Phi_castSucc, Phi_succ, after0_eq]
  simp only [before0_eq]
  unfold Dat.owesAt Pipeline.owesWithin
  rw [show (dats m 0 c).owed t.castSucc = 0 from rfl, show (dats m 0 c).owed t.succ = 0 from rfl]
  rw [PhiAt_mid m c t.val (by omega) (by omega), PhiAt_mid m c (t.val + 1) (by omega) (by omega)]
  unfold mid
  rw [segAt_succ, gramAt_succ]
  iintro ⟨⟨⟨%X₀, %hK, HX⟩, HS, HG, HO, HV, ⟨FW1, FW2, FW3, Fb3, Fb1, Fb2, Fg1, Fbe, FY⟩, Hr⟩, ⟨%W, %hW, HW⟩, ⟨%d0, H0⟩, H1⟩
  iapply (runB c (grid0.coords t) (by omega) (by rw [cond1_iff]; omega) (by rw [cond3_iff]; omega) ((cond2_iff _).2 (by omega)) (by rw [cond4_iff]; omega)
    (win0_0.stage (cfg0.slots t 0)) (hstage0_0 ((cfg0.slots t 0).cast nbuf0_0))
    (win0_1.stage (cfg0.slots t 1)) (hstage0_1 ((cfg0.slots t 1).cast nbuf0_1)) (xs m c t) X₀ (segAt (xs m c) t.val) (gramAt (xs m c) t.val) W _)
  isplitl [H0]; · iexact H0
  isplitl [HX]; · iexact HX
  isplitl [HS]; · iexact HS
  isplitl [HG]; · iexact HG
  isplitl [HW]; · iexact HW
  iintro ⟨H0, HX, HS, HG, ⟨%W', HO'⟩⟩
  isplitl [HX HS HG HO HV FW1 FW2 FW3 Fb3 Fb1 Fb2 Fg1 Fbe FY Hr]
  · isplitl [HX]
    · icases HX with ⟨%X, %hP, HX⟩
      iexists X; isplitr; · ipureintro; exact kept_succ (xs m c) t _ hi hP hK
      iexact HX
    isplitl [HS]; · iexact HS
    isplitl [HG]; · iexact HG
    isplitl [HO]; · iexact HO
    isplitl [HV]; · iexact HV
    isplitl [FW1 FW2 FW3 Fb3 Fb1 Fb2 Fg1 Fbe FY]
    · isplitl [FW1]; · iexact FW1
      isplitl [FW2]; · iexact FW2
      isplitl [FW3]; · iexact FW3
      isplitl [Fb3]; · iexact Fb3
      isplitl [Fb1]; · iexact Fb1
      isplitl [Fb2]; · iexact Fb2
      isplitl [Fg1]; · iexact Fg1
      isplitl [Fbe]; · iexact Fbe
      iexact FY
    iexact Hr
  isplitl [HO']
  · iexists W'; isplitr; · ipureintro; exact fun _ _ => Or.inl trivial
    iexact HO'
  isplitl [H0]; · iexact H0
  iexact H1

/-- The fourth point. -/
theorem soundC (c : Dev nD) (t : Fin cfg0.N) (h3 : t.val = 3) :
    bodyPre m c t ⊢ wp frame (wpE (defs₀ (F := F)) Variants.none c none) Set.univ (bodyAt0 t) (fun _ => postEarly m c t) := by
  have hi : (grid0.coords t 0).val = t.val := coords_val t
  unfold bodyPre postEarly bodyAt0
  rw [Phi_castSucc, Phi_succ, after0_eq]
  simp only [before0_eq]
  unfold Dat.owesAt Pipeline.owesWithin
  rw [show (dats m 0 c).owed t.castSucc = 0 from rfl, show (dats m 0 c).owed t.succ = 0 from rfl]
  rw [PhiAt_mid m c t.val (by omega) (by omega), PhiAt_late m c (t.val + 1) (by omega)]
  unfold mid late
  rw [show segAt (xs m c) 4 = segStep (grid0.coords t) (xs m c t) (segAt (xs m c) t.val) by rw [← segAt_succ, h3],
    show gramAt (xs m c) 4 = k0_pay11 (xs m c t) (gramAt (xs m c) t.val) by rw [← gramAt_succ, h3]]
  iintro ⟨⟨⟨%X₀, %hK, HX⟩, HS, HG, HO, HV, ⟨FW1, FW2, FW3, Fb3, Fb1, Fb2, Fg1, Fbe, FY⟩, Hr⟩, ⟨%W, %hW, HW⟩, ⟨%d0, H0⟩, H1⟩
  iapply (runC c (grid0.coords t) (by omega) (by rw [cond1_iff]; omega) ((cond3_iff _).2 (by omega)) ((cond2_iff _).2 (by omega)) (by rw [cond4_iff]; omega)
    (win0_0.stage (cfg0.slots t 0)) (hstage0_0 ((cfg0.slots t 0).cast nbuf0_0))
    (win0_1.stage (cfg0.slots t 1)) (hstage0_1 ((cfg0.slots t 1).cast nbuf0_1)) (xs m c t) X₀ (segAt (xs m c) t.val) (gramAt (xs m c) t.val)
    (V m c main_arg4) (V m c main_arg8) (V m c main_arg10) (V m c main_v1) (V m c main_v2) (V m c main_v3) (V m c main_v4) (V m c main_v5) (V m c main_v0) W _)
  isplitl [H0]; · iexact H0
  isplitl [HX]; · iexact HX
  isplitl [HS]; · iexact HS
  isplitl [HG]; · iexact HG
  isplitl [HO]; · iexact HO
  isplitl [HV]; · iexact HV
  isplitl [FW1 FW2 FW3 Fb3 Fb1 Fb2 Fg1 Fbe FY]
  · isplitl [FW1]; · iexact FW1
    isplitl [FW2]; · iexact FW2
    isplitl [FW3]; · iexact FW3
    isplitl [Fb3]; · iexact Fb3
    isplitl [Fb1]; · iexact Fb1
    isplitl [Fb2]; · iexact Fb2
    isplitl [Fg1]; · iexact Fg1
    isplitl [Fbe]; · iexact Fbe
    iexact FY
  isplitl [HW]; · iexact HW
  iintro ⟨H0, HX, HS, HG, HO, HV, ⟨HW1, HW2, HW3, Hb3, Hb1, Hb2, Hg1, Hbe, HY⟩, ⟨SW1, SW2, SW3, Sb3, Sb1, Sb2, Sg1, Sbe, SY⟩, ⟨QW1, QW2, QW3, Qb3, Qb1, Qb2, Qg1, Qbe, QY⟩, ⟨%W', HO'⟩⟩
  isplitl [HX HS HG HO HV SW1 SW2 SW3 Sb3 Sb1 Sb2 Sg1 Sbe SY Hr QW1 QW2 QW3 Qb3 Qb1 Qb2 Qg1 Qbe QY HW1 HW2 HW3 Hb3 Hb1 Hb2 Hg1 Hbe HY]
  · isplitl [HX]
    · icases HX with ⟨%X, %hP, HX⟩
      have hX : X = tok (xs m c) := kept_all (by have := kept_succ (xs m c) t _ hi hP hK; rw [h3] at this; exact this)
      rw [← hX]; iexact HX
    isplitl [HS]; · iexact HS
    isplitl [HG]; · iexact HG
    isplitl [HO]; · iexact HO
    isplitl [HV]; · iexact HV
    isplitl [SW1 SW2 SW3 Sb3 Sb1 Sb2 Sg1 Sbe SY]
    · isplitl [SW1]; · iexact SW1
      isplitl [SW2]; · iexact SW2
      isplitl [SW3]; · iexact SW3
      isplitl [Sb3]; · iexact Sb3
      isplitl [Sb1]; · iexact Sb1
      isplitl [Sb2]; · iexact Sb2
      isplitl [Sg1]; · iexact Sg1
      isplitl [Sbe]; · iexact Sbe
      iexact SY
    isplitl [Hr]; · iexact Hr
    isplitl [QW1 QW2 QW3 Qb3 Qb1 Qb2 Qg1 Qbe QY]
    · isplitl [QW1]; · iexact QW1
      isplitl [QW2]; · iexact QW2
      isplitl [QW3]; · iexact QW3
      isplitl [Qb3]; · iexact Qb3
      isplitl [Qb1]; · iexact Qb1
      isplitl [Qb2]; · iexact Qb2
      isplitl [Qg1]; · iexact Qg1
      isplitl [Qbe]; · iexact Qbe
      iexact QY
    isplitl [HW1]; · iexact HW1
    isplitl [HW2]; · iexact HW2
    isplitl [HW3]; · iexact HW3
    isplitl [Hb3]; · iexact Hb3
    isplitl [Hb1]; · iexact Hb1
    isplitl [Hb2]; · iexact Hb2
    isplitl [Hg1]; · iexact Hg1
    isplitl [Hbe]; · iexact Hbe
    iexact HY
  isplitl [HO']
  · iexists W'; isplitr; · ipureintro; exact fun _ _ => Or.inl trivial
    iexact HO'
  isplitl [H0]; · iexact H0
  iexact H1

/-- A point of the second half. -/
theorem soundD (c : Dev nD) (t : Fin cfg0.N) (h4 : 4 ≤ t.val) :
    bodyPre m c t ⊢ wp frame (wpE (defs₀ (F := F)) Variants.none c none) Set.univ (bodyAt0 t) (fun _ => postLate m c t) := by
  have hi : (grid0.coords t 0).val = t.val := coords_val t
  unfold bodyPre postLate bodyAt0
  rw [Phi_castSucc, Phi_succ, after0_eq]
  simp only [before0_eq]
  unfold Dat.owesAt Pipeline.owesWithin
  rw [show (dats m 0 c).owed t.castSucc = 0 from rfl, show (dats m 0 c).owed t.succ = 0 from rfl]
  rw [PhiAt_late m c t.val h4, PhiAt_late m c (t.val + 1) (by omega), after1_eq]
  unfold late
  iintro ⟨⟨HX, HS, HG, HO, HV, Hrest⟩, ⟨%W, %hW, HW⟩, ⟨%d0, H0⟩, ⟨%d1, H1⟩⟩
  iapply (runD c (grid0.coords t) (by omega) (by rw [cond1_iff]; omega) (by rw [cond3_iff]; omega) (by rw [cond2_iff]; omega) ((cond4_iff _).2 (by omega))
    (win0_0.stage (cfg0.slots t 0)) (hstage0_0 ((cfg0.slots t 0).cast nbuf0_0))
    (win0_1.stage (cfg0.slots t 1)) (hstage0_1 ((cfg0.slots t 1).cast nbuf0_1)) (tok (xs m c)) (offsV (ops m c) (segAt (xs m c) 4) (gramAt (xs m c) 4)) (w1sV (ops m c) (segAt (xs m c) 4) (gramAt (xs m c) 4)) W _)
  isplitl [H1]; · iexists _; iexact H1
  isplitl [HX]; · iexact HX
  isplitl [HO]; · iexact HO
  isplitl [HV]; · iexact HV
  isplitl [HW]; · iexact HW
  iintro ⟨H1, HX, HO, HV, ⟨%W', HO'⟩⟩
  isplitl [HX HS HG HO HV Hrest]
  · isplitl [HX]; · iexact HX
    isplitl [HS]; · iexact HS
    isplitl [HG]; · iexact HG
    isplitl [HO]; · iexact HO
    isplitl [HV]; · iexact HV
    iexact Hrest
  isplitl [HO']
  · iexists W'; isplitr; · ipureintro; exact fun _ _ => Or.inl trivial
    iexact HO'
  isplitl [H0]; · iexact H0
  iexact H1

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- In the first half the result's window is idle and nothing is written back. -/
theorem idle_early (t : Fin cfg0.N) (h : t.val < 4) : cfg0.idle 1 (cfg0.grid.coords t) = true ∧ (cfg0.win 1).flush t = false := by
  rcases fin_N0 t with e | e | e | e | e | e | e | e <;> rw [e] at h ⊢ <;> first | (exfalso; revert h; decide) | (constructor <;> decide)

/-- In the second half it isn't idle. -/
theorem idle_late (t : Fin cfg0.N) (h : 4 ≤ t.val) : cfg0.idle 1 (cfg0.grid.coords t) = false := by
  rcases fin_N0 t with e | e | e | e | e | e | e | e <;> rw [e] at h ⊢ <;> first | (exfalso; revert h; decide) | decide

/-- The body does at every point what the pipeline asks of it. -/
theorem body_obligation (c : Dev nD) : BodyObligation (dats (F := F) m 0 c) (defs₀ (F := F)) Variants.none () Set.univ := fun t => by
  rw [bigSep_W0, bigSep_W0, defs₀_row]
  by_cases h4 : t.val < 4
  · obtain ⟨hI, hF⟩ := idle_early t h4
    rw [hI, hF]
    by_cases h0 : t.val = 0
    · exact triple_restated (soundA m c t h0) rfl .rfl fun _ => .rfl
    · by_cases h3 : t.val = 3
      · exact triple_restated (soundC m c t h3) rfl .rfl fun _ => .rfl
      · exact triple_restated (soundB m c t h0 (by omega)) rfl .rfl fun _ => .rfl
  · have hI := idle_late t (by omega)
    rw [hI]
    exact triple_restated (soundD m c t (by omega)) rfl .rfl fun _ => .rfl

end Cert.KernelIdeal.Hand
end
-- ==== Proof.Ideal.Main.lean ====
module

public import proofs.«01_k».proof.Proof.Gen.KernelIdeal.Frame
public import proofs.«01_k».proof.Proof.Gen.KernelIdeal.Skeleton
public import Idealize.ShloMosaic.Lib.Pipeline.Frame
public import proofs.«01_k».proof.Proof.Ideal.Body
public import Idealize.ShloMosaic.Lib.VecWindow
public import Idealize.ShloMosaic.Lib.Tactic
public import Idealize.ShloMosaic.Lib.Transfers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The launching function up to the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- From any memory with zero counters every fair execution ends, with the windows' arrays at what the write-backs leave,
    every other unscoped buffer as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun c => .rfl)
    (hout := fun c => by
      rw [show (dats m 0 c).Φ (Fin.last _) = late m c from by
        dsimp only [dats]
        exact PhiAt_late m c _ (by rw [Fin.val_last]; show 4 ≤ grid0.N; rw [N_0]; decide)]
      exact late_out m c)

variable {m ρ}

/-- After such a run every argument holds what it held at launch. -/
theorem args_kept {r : PUnit × MemSt nD τ sig (Elt F)} (h : Pipeline.FramePost cfgs (dats (F := F) m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- After such a run the result is what the write-backs leave in its array. -/
theorem result_at {r : PUnit × MemSt nD τ sig (Elt F)} (h : Pipeline.FramePost cfgs (dats (F := F) m) 0 (V m) r) (c : Dev nD) :
    r.2.mem ((c.tc : Thread nD τ).loc main_v6) = (dats (F := F) m 0 c).arrAt 1 cfg0.N := (h c).1 1

end Cert.KernelIdeal.Hand
end
-- ==== Proof.Claims.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import proofs.«01_k».proof.Proof.Ideal.Main

@[expose] public section

noncomputable section

namespace Cert.Proof

open Idealize.ShloMosaic Idealize.SL.Sem

/-- The kernel ends, keeps its arguments and leaves every counter at zero. -/
theorem frame_kernel : Cert.quiescent_Kernel := fun m ρ _ =>
  (θ_run _ _ _).mono (fun _ h => ⟨Cert.Kernel.Hand.args_kept h.1, h.2⟩) (Cert.Kernel.Hand.run_main (F := Bits) m ρ)

/-- So does the kernel over the extended reals. -/
theorem frame_ideal : Cert.quiescent_KernelIdeal := fun m ρ _ =>
  (θ_run _ _ _).mono (fun _ h => ⟨Cert.KernelIdeal.Hand.args_kept h.1, h.2⟩) (Cert.KernelIdeal.Hand.run_main (F := Ideal) m ρ)

/-- So does the reference over the extended reals, which has no counter. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run (F := Ideal) m ρ)

end Cert.Proof

end
-- ==== Proof.Value.Lift.lean ====
/- Real numbers among the extended reals: sums, quotients, roots and maxima of real numbers are real, and the constants
   of the two programs. -/
module

public import Idealize.ShloMosaic.PureOps.Ideal
public import Idealize.ShloMosaic.Lib.IdealHost

@[expose] public section

noncomputable section

namespace Cert.Arith

open Idealize.ShloMosaic

/-- A sum of real numbers is the same sum in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- So is a maximum. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- So is a maximum with zero. -/
theorem coe_relu (a : ℝ) : ((max a 0 : ℝ) : EReal) = max (a : EReal) 0 := coe_max a 0

/-- A quotient of real numbers is real if the divisor isn't zero. -/
theorem div_coe (a : ℝ) {b : ℝ} (h : b ≠ 0) : Ideal.div (a : EReal) (b : EReal) = ((a / b : ℝ) : EReal) := by
  unfold Ideal.div
  rw [if_neg (by exact_mod_cast h), div_eq_mul_inv, EReal.coe_mul, EReal.coe_inv]

/-- The root of a positive number is real. -/
theorem sqrt_coe {a : ℝ} (h : 0 < a) : Ideal.sqrt (a : EReal) = ((Real.sqrt a : ℝ) : EReal) := by
  show (if a < 0 then (⊥ : EReal) else _) = _
  rw [if_neg (not_lt.2 h.le)]

/-- So is its inverse. -/
theorem rsqrt_coe {a : ℝ} (h : 0 < a) : Ideal.rsqrt (a : EReal) = (((Real.sqrt a)⁻¹ : ℝ) : EReal) := by
  show (if a < 0 then (⊥ : EReal) else if a = 0 then ⊤ else _) = _
  rw [if_neg (not_lt.2 h.le), if_neg h.ne']

/-- The one-hot entry of a category `y` at place `k`. -/
def hot (y : BitVec 32) (k : ℕ) : ℝ := if y = BitVec.ofNat 32 k then 1 else 0

/-- The constants of the two programs. -/
theorem bits_32768 : Ideal.ofBits .f32 0x47000000#32 = ((32768 : ℝ) : EReal) := by
  simp [Ideal.ofBits, Ideal.ieee]; rw [← EReal.coe_mul]; norm_num
/-- The word of 2048. -/
theorem bits_2048 : Ideal.ofBits .f32 0x45000000#32 = ((2048 : ℝ) : EReal) := by
  simp [Ideal.ofBits, Ideal.ieee]; rw [← EReal.coe_mul]; norm_num
/-- The word of 2. -/
theorem bits_2 : Ideal.ofBits .f32 0x40000000#32 = ((2 : ℝ) : EReal) := by
  simp [Ideal.ofBits, Ideal.ieee]; rw [← EReal.coe_mul]; norm_num
/-- The word of 1/2048. -/
theorem bits_inv2048 : Ideal.ofBits .f32 0x3A000000#32 = ((1 / 2048 : ℝ) : EReal) := by
  simp [Ideal.ofBits, Ideal.ieee]; rw [← EReal.coe_mul]; norm_num
/-- The word of infinity. -/
theorem bits_inf : Ideal.ofBits .f32 0x7F800000#32 = ⊤ := by
  simp [Ideal.ofBits, Ideal.ieee]

/-- The word of the normalisation's small number, as a fraction. -/
theorem bits_eps_val : Ideal.ofBits .f32 0x3727C5AC#32 = ((10995116 * (2 ^ 40)⁻¹ : ℝ) : EReal) := by
  simp [Ideal.ofBits, Ideal.ieee]

/-- The number added under the root. -/
def eps : ℝ := (Ideal.ofBits .f32 0x3727C5AC#32).toReal
/-- That fraction is `eps`. -/
theorem bits_eps : Ideal.ofBits .f32 0x3727C5AC#32 = (eps : EReal) := by
  unfold eps
  simp only [bits_eps_val, EReal.toReal_coe]
/-- The small number is positive. -/
theorem eps_pos : 0 < eps := by
  unfold eps
  rw [bits_eps_val, EReal.toReal_coe]
  positivity

end Cert.Arith
end
-- ==== Proof.Value.Real.lean ====
/- The arithmetic of the claim over the real numbers: the kernel's mean and variance, taken from segment sums and a Gram
   matrix, are the reference's, taken over all the tokens. -/
module

public import Mathlib.Analysis.SpecialFunctions.Pow.Real
public import Mathlib.Algebra.BigOperators.Fin
public import Mathlib.Logic.Equiv.Fin.Basic

@[expose] public section

noncomputable section

namespace Cert.Arith

/-- The inputs that enter sums, as real numbers; `e` is the one-hot matrix of the categories. -/
structure Input where
  x : Fin 32768 → Fin 128 → ℝ
  w1 : Fin 1280 → Fin 128 → ℝ
  b1 : Fin 128 → ℝ
  g1 : Fin 128 → ℝ
  w2 : Fin 128 → Fin 128 → ℝ
  b2 : Fin 128 → ℝ
  e : Fin 16 → Fin 16 → ℝ
  w3 : Fin 16 → Fin 1024 → ℝ
  b3 : Fin 1024 → ℝ

/-- Token `q` of segment `s`. -/
def tok (s : Fin 16) (q : Fin 2048) : Fin 32768 := ⟨s.val * 2048 + q.val, by have := s.isLt; have := q.isLt; omega⟩
/-- The segment of a token. -/
def seg (n : Fin 32768) : Fin 16 := ⟨n.val / 2048, by have := n.isLt; omega⟩

/-- A token of a segment lies in that segment. -/
theorem seg_tok (s : Fin 16) (q : Fin 2048) : seg (tok s q) = s := by
  have := q.isLt; apply Fin.ext; show (s.val * 2048 + q.val) / 2048 = s.val; omega

/-- Tokens as pairs of a segment and a place in it. -/
def tokEquiv : Fin 16 × Fin 2048 ≃ Fin 32768 where
  toFun p := tok p.1 p.2
  invFun n := (seg n, ⟨n.val % 2048, Nat.mod_lt _ (by decide)⟩)
  left_inv p := by
    refine Prod.ext (seg_tok p.1 p.2) (Fin.ext ?_)
    have := p.2.isLt
    show (p.1.val * 2048 + p.2.val) % 2048 = p.2.val
    omega
  right_inv n := by apply Fin.ext; show n.val / 2048 * 2048 + n.val % 2048 = n.val; omega

/-- A sum over the tokens, segment by segment. -/
theorem sum_tok {M : Type*} [AddCommMonoid M] (f : Fin 32768 → M) : ∑ n, f n = ∑ s, ∑ q, f (tok s q) := by
  rw [← tokEquiv.sum_comp f, Fintype.sum_prod_type]; rfl

/-- Row `k` of the weights' part for the mean feature, and of the part for the category's feature. -/
def rowA (k : Fin 128) : Fin 1280 := ⟨k.val, by have := k.isLt; omega⟩
/-- The row of the weights for a mean feature. -/
def rowB (k : Fin 128) : Fin 1280 := ⟨128 + k.val, by have := k.isLt; omega⟩
/-- The row of the weights for a class feature. -/
def rowC (k : Fin 1024) : Fin 1280 := ⟨256 + k.val, by have := k.isLt; omega⟩

variable (d : Input)

/-- The sum of a segment's tokens. -/
def sums (s : Fin 16) (k : Fin 128) : ℝ := ∑ q, d.x (tok s q) k
/-- The feature of a segment's mean. -/
def h2 (s : Fin 16) (k : Fin 128) : ℝ := max (∑ j, sums d s j / 2048 * d.w2 j k + d.b2 k) 0
/-- The feature of a segment's category. -/
def h3 (s : Fin 16) (k : Fin 1024) : ℝ := max (∑ j, d.e s j * d.w3 j k + d.b3 k) 0
/-- What a segment adds to each of its tokens before the normalisation. -/
def beta (s : Fin 16) (c : Fin 128) : ℝ := ∑ k, h2 d s k * d.w1 (rowB k) c + ∑ k, h3 d s k * d.w1 (rowC k) c + d.b1 c
/-- A token's own part before the normalisation. -/
def lin (n : Fin 32768) (c : Fin 128) : ℝ := ∑ k, d.x n k * d.w1 (rowA k) c
/-- The sum of those over a segment, from the segment's sum. -/
def segLin (s : Fin 16) (c : Fin 128) : ℝ := ∑ k, sums d s k * d.w1 (rowA k) c
/-- The Gram matrix of the tokens. -/
def gram (k l : Fin 128) : ℝ := ∑ n, d.x n k * d.x n l
/-- The sum of the squares of the tokens' own parts, from the Gram matrix. -/
def quad (c : Fin 128) : ℝ := ∑ k, d.w1 (rowA k) c * ∑ l, gram d k l * d.w1 (rowA l) c

/-- What is normalised. -/
def pre (n : Fin 32768) (c : Fin 128) : ℝ := lin d n c + beta d (seg n) c
/-- The mean over the tokens, and the mean square of what differs from it. -/
def mean (c : Fin 128) : ℝ := (∑ n, pre d n c) / 32768
/-- The biased variance of a column of the layer's output. -/
def var (c : Fin 128) : ℝ := (∑ n, (pre d n c - mean d c) * (pre d n c - mean d c)) / 32768

/-- The mean as the kernel takes it. -/
def kmean (c : Fin 128) : ℝ := (∑ s, segLin d s c + 2048 * ∑ s, beta d s c) / 32768
/-- The variance as the kernel takes it. -/
def kvar (c : Fin 128) : ℝ :=
  (quad d c + 2 * ∑ s, beta d s c * segLin d s c + 2048 * ∑ s, beta d s c * beta d s c) / 32768 - kmean d c * kmean d c

/-- The tokens of a segment through the weights sum to the segment's sum through them. -/
theorem sum_lin (s : Fin 16) (c : Fin 128) : ∑ q, lin d (tok s q) c = segLin d s c := by
  unfold lin segLin sums
  rw [Finset.sum_comm]
  exact Finset.sum_congr rfl fun k _ => (Finset.sum_mul _ _ _).symm

/-- The squares of the tokens through the weights sum to the quadratic form. -/
theorem sum_lin_sq (c : Fin 128) : ∑ n, lin d n c * lin d n c = quad d c := by
  unfold lin quad gram
  simp only [Finset.sum_mul_sum, Finset.mul_sum, Finset.sum_mul]
  rw [Finset.sum_comm]
  refine Finset.sum_congr rfl fun k _ => ?_
  rw [Finset.sum_comm]
  exact Finset.sum_congr rfl fun l _ => Finset.sum_congr rfl fun n _ => by ring

/-- The kernel's mean is the mean. -/
theorem kmean_eq (c : Fin 128) : kmean d c = mean d c := by
  unfold kmean mean pre
  rw [sum_tok]
  simp only [seg_tok, Finset.sum_add_distrib, sum_lin, Finset.sum_const, Finset.card_univ, Fintype.card_fin, nsmul_eq_mul,
    ← Finset.mul_sum]
  norm_num

/-- The squares of the layer's output, from quadratic form, segment sums and offsets. -/
theorem sum_pre_sq (c : Fin 128) : ∑ n, pre d n c * pre d n c
    = quad d c + 2 * ∑ s, beta d s c * segLin d s c + 2048 * ∑ s, beta d s c * beta d s c := by
  have h : ∀ n, pre d n c * pre d n c = lin d n c * lin d n c + (2 * (beta d (seg n) c * lin d n c) + beta d (seg n) c * beta d (seg n) c) :=
    fun n => by unfold pre; ring
  rw [Finset.sum_congr rfl fun n _ => h n, Finset.sum_add_distrib, Finset.sum_add_distrib, sum_lin_sq,
    sum_tok (fun n => 2 * (beta d (seg n) c * lin d n c)), sum_tok (fun n => beta d (seg n) c * beta d (seg n) c)]
  simp only [seg_tok, ← Finset.mul_sum, sum_lin, Finset.sum_const, Finset.card_univ, Fintype.card_fin, nsmul_eq_mul]
  push_cast
  simp only [mul_left_comm _ (2048 : ℝ), ← Finset.mul_sum]
  ring

/-- The kernel's variance is the variance. -/
theorem kvar_eq (c : Fin 128) : kvar d c = var d c := by
  have hs : ∑ n, pre d n c = 32768 * mean d c := by unfold mean; ring
  have h : ∀ n, (pre d n c - mean d c) * (pre d n c - mean d c)
      = pre d n c * pre d n c - 2 * mean d c * pre d n c + mean d c * mean d c := fun n => by ring
  unfold kvar var
  rw [kmean_eq, ← sum_pre_sq]
  simp only [h, Finset.sum_add_distrib, Finset.sum_sub_distrib, ← Finset.mul_sum, hs, Finset.sum_const, Finset.card_univ, Fintype.card_fin,
    nsmul_eq_mul]
  push_cast
  ring

/-- A variance isn't negative. -/
theorem var_nonneg (c : Fin 128) : 0 ≤ var d c :=
  div_nonneg (Finset.sum_nonneg fun n _ => mul_self_nonneg _) (by norm_num)

/-- One token's normalised value: scaled weights and a segment's offset against the reference's quotient. -/
theorem out_eq (n : Fin 32768) (c : Fin 128) (r : ℝ) :
    ∑ k, d.x n k * (d.w1 (rowA k) c * (d.g1 c * r)) + beta d (seg n) c * (d.g1 c * r) - kmean d c * (d.g1 c * r)
      = (pre d n c - mean d c) * r * d.g1 c := by
  rw [kmean_eq]
  unfold pre lin
  have h : ∑ k, d.x n k * (d.w1 (rowA k) c * (d.g1 c * r)) = (∑ k, d.x n k * d.w1 (rowA k) c) * (d.g1 c * r) := by
    rw [Finset.sum_mul]; exact Finset.sum_congr rfl fun k _ => by ring
  rw [h]; ring

end Cert.Arith
end
-- ==== Proof.Value.Pays.lean ====
/- What the kernel's payloads compute over the extended reals, element by element. -/
module

public import proofs.«01_k».proof.Proof.Ideal.Inv
public import proofs.«01_k».proof.Proof.Value.Lift
public import proofs.«01_k».proof.Proof.Value.Real
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Idealize.ShloMosaic
open Cert.Arith (hot)

/-- The row of the block's `q`-th token of its `r`-th segment. -/
abbrev blkRow (r : Fin 4) (q : Fin 2048) : Fin 8192 := ⟨r.val * 2048 + q.val, by have := r.isLt; have := q.isLt; omega⟩

/-- Different words compare unequal. -/
theorem cmp_eq_ne {a b : BitVec 32} (h : a ≠ b) : IntOp.cmpi CmpIPredicate.eq a b = 0#1 := by
  simp [IntOp.cmpi, beq_eq_false_iff_ne.2 h]
/-- A word compares equal to itself. -/
theorem cmp_eq_self (a : BitVec 32) : IntOp.cmpi CmpIPredicate.eq a a = 1#1 := by
  simp [IntOp.cmpi]

/-- The kernel's comparison of a class with a column, as a number: one where they agree, else zero. -/
theorem hot_signed (y : BitVec 32) (k : ℕ) :
    (FloatOps.sitofp (F := Ideal) FTy.f32 (BitVec.setWidth 32 (IntOp.cmpi CmpIPredicate.eq y (BitVec.ofNat 32 k))) : EReal)
      = (hot y k : EReal) := by
  unfold hot
  by_cases h : y = BitVec.ofNat 32 k
  · rw [if_pos h, h, cmp_eq_self]
    show (((BitVec.setWidth 32 1#1).toInt : ℝ) : EReal) = _
    simp
  · rw [if_neg h, cmp_eq_ne h]
    show (((BitVec.setWidth 32 0#1).toInt : ℝ) : EReal) = _
    simp

/-- A selection by an equation of words. -/
theorem select_eq {α : Type} (a b : BitVec 32) (x y : α) :
    Scalar.select (IntOp.cmpi CmpIPredicate.eq a b) x y = if a = b then x else y := by
  by_cases h : a = b
  · rw [if_pos h, h, cmp_eq_self]; rfl
  · rw [if_neg h, cmp_eq_ne h]; rfl

/-- A segment's word equals that of a group of rows in the first half just if the numbers agree. -/
theorem word_in (r : Fin 16) (i : Fin 8) (j : Fin 4) :
    (BitVec.ofNat 32 r.val = Scalar.addi (Scalar.muli 4#32 (BitVec.ofNat 32 i.val)) (BitVec.ofNat 32 j.val)) ↔ r.val = 4 * i.val + j.val := by
  revert r i j; decide
/-- The same in the second half, where blocks count from the fourth point. -/
theorem word_out (r : Fin 16) (i : Fin 8) (j : Fin 4) (h : 4 ≤ i.val) :
    (BitVec.ofNat 32 r.val = Scalar.addi (Scalar.muli 4#32 (Scalar.subi (BitVec.ofNat 32 i.val) 4#32)) (BitVec.ofNat 32 j.val))
      ↔ r.val = 4 * (i.val - 4) + j.val := by
  revert r i j; decide

/-- The first accumulator starts at zero. -/
theorem pay1_apply (r : Fin 16) (k : Fin 128) : k0_pay1 (F := Ideal) (ix2 r k) = (0 : EReal) := by
  pointwise [k0_pay1]
/-- So does the second. -/
theorem pay2_apply (r k : Fin 128) : k0_pay2 (F := Ideal) (ix2 r k) = (0 : EReal) := by
  pointwise [k0_pay2]
/-- The number of tokens of a segment. -/
theorem pay19_apply (c : Fin 128) : k0_pay19 (F := Ideal) (ix2 0 c) = ((2048 : ℝ) : EReal) := by
  pointwise [k0_pay19]
  exact Cert.Arith.bits_2048

/-- Over the extended reals the shorter format keeps a token as it is. -/
theorem pay10_apply (x : Vec Ideal S8192x128 .f32) (a : Fin 8192) (k : Fin 128) : k0_pay10 x (ix2 a k) = x (ix2 a k) := by
  pointwise [k0_pay10, k0_pay9]

/-- A block's step of the Gram matrix adds the products of its rows. -/
theorem pay11_apply (x : Vec Ideal S8192x128 .f32) (g : Vec Ideal S128x128 .f32) (k l : Fin 128) :
    k0_pay11 x g (ix2 k l) = g (ix2 k l) + ∑ a : Fin 8192, x (ix2 a k) * x (ix2 a l) := by
  pointwise [k0_pay11, k0_pay9]

/-- A segment's offset from its mean features and its class features, each layer written out. -/
theorem pay14_apply (wb : Vec Ideal S128x128 .f32) (wc : Vec Ideal S1024x128 .f32) (b1 b2 : Vec Ideal S1x128 .f32)
    (s : Vec Ideal S16x128 .f32) (w2 : Vec Ideal S128x128 .f32) (y : Vec Ideal S16x1 .i32) (w3 : Vec Ideal S16x1024 .f32)
    (b3 : Vec Ideal S1x1024 .f32) (r : Fin 16) (c : Fin 128) :
    k0_pay14 wb wc b1 b2 s w2 y w3 b3 (ix2 r c)
      = ∑ k : Fin 128, max (∑ j : Fin 128, s (ix2 r j) * ((1 / 2048 : ℝ) : EReal) * w2 (ix2 j k) + b2 (ix2 0 k)) 0 * wb (ix2 k c)
        + ∑ k : Fin 1024, max (∑ j : Fin 16, (hot (y (ix2 r 0)) j.val : EReal) * w3 (ix2 j k) + b3 (ix2 0 k)) 0 * wc (ix2 k c)
        + b1 (ix2 0 c) := by
  pointwise [k0_pay14]
  simp only [hot_signed, Cert.Arith.bits_inv2048]

/-- A segment's sum through the weights. -/
theorem pay15_apply (wa : Vec Ideal S128x128 .f32) (s : Vec Ideal S16x128 .f32) (r : Fin 16) (c : Fin 128) :
    k0_pay15 wa s (ix2 r c) = ∑ k : Fin 128, s (ix2 r k) * wa (ix2 k c) := by
  pointwise [k0_pay15]

/-- The same, summed over the segments. -/
theorem pay16_apply (wa : Vec Ideal S128x128 .f32) (s : Vec Ideal S16x128 .f32) (c : Fin 128) :
    k0_pay16 wa s (ix2 0 c) = ∑ r : Fin 16, ∑ k : Fin 128, s (ix2 r k) * wa (ix2 k c) := by
  pointwise [k0_pay16, k0_pay15]

/-- The quadratic form of the Gram matrix in a column of the weights. -/
theorem pay17_apply (wa : Vec Ideal S128x128 .f32) (g : Vec Ideal S128x128 .f32) (c : Fin 128) :
    k0_pay17 wa g (ix2 0 c) = ∑ k : Fin 128, wa (ix2 k c) * ∑ l : Fin 128, g (ix2 k l) * wa (ix2 l c) := by
  pointwise [k0_pay17]

/-- The segments' offsets summed. -/
theorem pay18_apply (wb : Vec Ideal S128x128 .f32) (wc : Vec Ideal S1024x128 .f32) (b1 b2 : Vec Ideal S1x128 .f32)
    (s : Vec Ideal S16x128 .f32) (w2 : Vec Ideal S128x128 .f32) (y : Vec Ideal S16x1 .i32) (w3 : Vec Ideal S16x1024 .f32)
    (b3 : Vec Ideal S1x1024 .f32) (c : Fin 128) :
    k0_pay18 wb wc b1 b2 s w2 y w3 b3 (ix2 0 c)
      = ∑ r : Fin 16, k0_pay14 wb wc b1 b2 s w2 y w3 b3 (ix2 r c) := by
  pointwise [k0_pay18]

/-- The mean from its two sums. -/
theorem pay4_apply (t u v : FVec Ideal S1x128 .f32) (c : Fin 128) :
    k0_pay4 t u v (ix2 0 c) = Ideal.div (t (ix2 0 c) + v (ix2 0 c) * u (ix2 0 c)) ((32768 : ℝ) : EReal) := by
  pointwise [k0_pay4]
  rw [Cert.Arith.bits_32768]

/-- The factor from the mean and the sums of squares. -/
theorem pay5_apply (g : Vec Ideal S1x128 .f32) (b t : FVec Ideal S16x128 .f32) (p q u v : FVec Ideal S1x128 .f32) (c : Fin 128) :
    k0_pay5 g b t p q u v (ix2 0 c)
      = g (ix2 0 c) * Ideal.rsqrt
          (Ideal.div (q (ix2 0 c) + ((2 : ℝ) : EReal) * ∑ r, b (ix2 r c) * t (ix2 r c) + ((2048 : ℝ) : EReal) * ∑ r, b (ix2 r c) * b (ix2 r c))
              ((32768 : ℝ) : EReal)
            - k0_pay4 p u v (ix2 0 c) * k0_pay4 p u v (ix2 0 c) + (Cert.Arith.eps : EReal)) := by
  pointwise [k0_pay5]
  rw [Cert.Arith.bits_2, Cert.Arith.bits_2048, Cert.Arith.bits_32768, Cert.Arith.bits_eps]

/-- A weight times the factor of its column. -/
theorem pay6_apply (wa : Vec Ideal S128x128 .f32) (g : Vec Ideal S1x128 .f32) (b t : FVec Ideal S16x128 .f32) (p q u v : FVec Ideal S1x128 .f32)
    (k c : Fin 128) : k0_pay6 wa g b t p q u v (ix2 k c) = wa (ix2 k c) * k0_pay5 g b t p q u v (ix2 0 c) := by
  pointwise [k0_pay6]

/-- A segment's offset times the factor, moved by what the mean takes off. -/
theorem pay7_apply (g be : Vec Ideal S1x128 .f32) (b t : FVec Ideal S16x128 .f32) (p q u v : FVec Ideal S1x128 .f32)
    (r : Fin 16) (c : Fin 128) : k0_pay7 g be b t p q u v (ix2 r c)
      = b (ix2 r c) * k0_pay5 g b t p q u v (ix2 0 c)
        + (be (ix2 0 c) - k0_pay4 p u v (ix2 0 c) * k0_pay5 g b t p q u v (ix2 0 c)) := by
  pointwise [k0_pay7]

/-- The sum of the tokens of the block's segment `r`. -/
def blkSum (x : Vec Ideal S8192x128 .f32) (k : Fin 128) (r : Fin 4) : EReal := ∑ q : Fin 2048, x (ix2 (blkRow r q) k)

/-- A group's sum of rows, over any numbering of its rows. -/
theorem blkSum_eq (x : Vec Ideal S8192x128 .f32) (k : Fin 128) (r : Fin 4) (f : Fin 2048 → Fin 8192) (h : ∀ q, (f q).val = r.val * 2048 + q.val) :
    ∑ q : Fin 2048, x (ix2 (f q) k) = blkSum x k r :=
  Finset.sum_congr rfl fun q _ => congrArg (fun a => x (ix2 a k)) (Fin.ext (h q))

/-- Of the four rows a block's sums are added into, the one that is row `r`. -/
theorem in_place (r : Fin 16) (i : Fin 8) (b : Fin 4 → EReal) :
    (((if BitVec.ofNat 32 r.val = Scalar.addi (Scalar.muli 4#32 (BitVec.ofNat 32 i.val)) 0#32 then b 0 else 0)
          + if BitVec.ofNat 32 r.val = Scalar.addi (Scalar.muli 4#32 (BitVec.ofNat 32 i.val)) 1#32 then b 1 else 0)
        + if BitVec.ofNat 32 r.val = Scalar.addi (Scalar.muli 4#32 (BitVec.ofNat 32 i.val)) 2#32 then b 2 else 0)
      + (if BitVec.ofNat 32 r.val = Scalar.addi (Scalar.muli 4#32 (BitVec.ofNat 32 i.val)) 3#32 then b 3 else 0)
      = if r.val / 4 = i.val then b ⟨r.val % 4, Nat.mod_lt _ (by decide)⟩ else 0 := by
  have hw : ∀ j : Fin 4, (BitVec.ofNat 32 r.val = Scalar.addi (Scalar.muli 4#32 (BitVec.ofNat 32 i.val)) (BitVec.ofNat 32 j.val))
      ↔ r.val = 4 * i.val + j.val := word_in r i
  have h0 : BitVec.ofNat 32 r.val = Scalar.addi (Scalar.muli 4#32 (BitVec.ofNat 32 i.val)) 0#32 ↔ r.val = 4 * i.val + 0 := hw 0
  have h1 : BitVec.ofNat 32 r.val = Scalar.addi (Scalar.muli 4#32 (BitVec.ofNat 32 i.val)) 1#32 ↔ r.val = 4 * i.val + 1 := hw 1
  have h2 : BitVec.ofNat 32 r.val = Scalar.addi (Scalar.muli 4#32 (BitVec.ofNat 32 i.val)) 2#32 ↔ r.val = 4 * i.val + 2 := hw 2
  have h3 : BitVec.ofNat 32 r.val = Scalar.addi (Scalar.muli 4#32 (BitVec.ofNat 32 i.val)) 3#32 ↔ r.val = 4 * i.val + 3 := hw 3
  simp only [h0, h1, h2, h3]
  by_cases hn : r.val / 4 = i.val
  · rw [if_pos hn]
    have hr : r.val = 4 * i.val + r.val % 4 := by omega
    have hm : r.val % 4 = 0 ∨ r.val % 4 = 1 ∨ r.val % 4 = 2 ∨ r.val % 4 = 3 := by omega
    have hb : ∀ j : Fin 4, r.val % 4 = j.val → b j = b ⟨r.val % 4, Nat.mod_lt _ (by decide)⟩ :=
      fun j h => congrArg b (Fin.ext h.symm)
    rcases hm with h | h | h | h
    · rw [if_pos (by omega), if_neg (by omega), if_neg (by omega), if_neg (by omega), ← hb 0 h, add_zero, add_zero, add_zero]
    · rw [if_neg (by omega), if_pos (by omega), if_neg (by omega), if_neg (by omega), ← hb 1 h, zero_add, add_zero, add_zero]
    · rw [if_neg (by omega), if_neg (by omega), if_pos (by omega), if_neg (by omega), ← hb 2 h, zero_add, zero_add, add_zero]
    · rw [if_neg (by omega), if_neg (by omega), if_neg (by omega), if_pos (by omega), ← hb 3 h, zero_add, zero_add, zero_add]
  · rw [if_neg hn, if_neg (by omega), if_neg (by omega), if_neg (by omega), if_neg (by omega), add_zero, add_zero, add_zero]

/-- A block's step adds a group's sum to the segment that the group belongs to, and nothing to the others. -/
theorem segStep_apply (i : grid0.Coords) (x : Vec Ideal S8192x128 .f32) (s : Vec Ideal S16x128 .f32) (r : Fin 16) (k : Fin 128) :
    segStep i x s (ix2 r k) = s (ix2 r k)
      + if r.val / 4 = (i 0).val then blkSum x k ⟨r.val % 4, Nat.mod_lt _ (by decide)⟩ else 0 := by
  pointwise [segStep, k0_pay3, k0_pay12, k0_pay13]
  rw [blkSum_eq x k 0 _ (fun q => by show q.val = _; simp), blkSum_eq x k 1 _ (fun q => rfl), blkSum_eq x k 2 _ (fun q => rfl),
    blkSum_eq x k 3 _ (fun q => rfl)]
  simp only [select_eq]
  exact congrArg (s (ix2 r k) + ·) (in_place r (i 0) (blkSum x k))

/-- A block's row of results: the token's row by the scaled weights, its segment's offset added, the negative cut off. -/
def rowOut (w : Vec Ideal S128x128 .bf16) (x : Fin 128 → EReal) (o : EReal) (c : Fin 128) : EReal :=
  max (∑ k : Fin 128, x k * w (ix2 k c) + o) 0

/-- The sum that picks one segment's offset. -/
theorem pick (f : Vec Ideal S16x128 .f32) (c : Fin 128) (n : BitVec 32) (r : Fin 16)
    (h : ∀ x : Fin 16, BitVec.ofNat 32 x.val = n ↔ x.val = r.val) :
    ∑ x : Fin 16, Scalar.select (IntOp.cmpi CmpIPredicate.eq (BitVec.ofNat 32 x.val) n) (f (ix2 x c)) (0 : EReal) = f (ix2 r c) := by
  simp only [select_eq, h, ← Fin.ext_iff]
  exact Finset.sum_ite_eq' Finset.univ r (fun x => f (ix2 x c)) |>.trans (if_pos (Finset.mem_univ r))

/-- The segment of the `j`-th group of rows of the block at point `i`. -/
def outSeg (i : grid0.Coords) (j : Fin 4) : Fin 16 :=
  ⟨(4 * ((i 0).val - 4) + j.val) % 16, Nat.mod_lt _ (by decide)⟩

/-- The number of the segment of a group of rows in the second half. -/
theorem outSeg_val (i : grid0.Coords) (j : Fin 4) : (outSeg i j).val = 4 * ((i 0).val - 4) + j.val := by
  have h : (i 0).val < 8 := (i 0).isLt
  have := j.isLt
  show (4 * ((i 0).val - 4) + j.val) % 16 = _
  omega

/-- A segment's word equals the group's just if it is the group's segment. -/
theorem word_seg (i : grid0.Coords) (h : 4 ≤ (i 0).val) (j : Fin 4) (x : Fin 16) :
    BitVec.ofNat 32 x.val = Scalar.addi (Scalar.muli 4#32 (Scalar.subi (BitVec.ofNat 32 (i 0).val) 4#32)) (BitVec.ofNat 32 j.val)
      ↔ x.val = (outSeg i j).val := by
  rw [outSeg_val]; exact word_out x (i 0) j h

variable (i : grid0.Coords) (h : 4 ≤ (i 0).val) (w : Vec Ideal S128x128 .bf16) (f : Vec Ideal S16x128 .f32) (x : Vec Ideal S2048x128 .bf16)
  (q : Fin 2048) (c : Fin 128)

include h in
/-- The first group of rows of a block of results. -/
theorem pay20_apply : k0_pay20 (BitVec.ofNat 32 (i 0).val) w f x (ix2 q c) = rowOut w (fun k => x (ix2 q k)) (f (ix2 (outSeg i 0) c)) c := by
  unfold rowOut
  pointwise [k0_pay20]
  exact congrArg (fun z => max (∑ k : Fin 128, x (ix2 q k) * w (ix2 k c) + z) 0) (pick f c _ (outSeg i 0) (word_seg i h 0))

include h in
/-- The second group. -/
theorem pay22_apply : k0_pay22 w (k0_pay21 (BitVec.ofNat 32 (i 0).val) f) x (ix2 q c)
    = rowOut w (fun k => x (ix2 q k)) (f (ix2 (outSeg i 1) c)) c := by
  unfold rowOut
  pointwise [k0_pay22, k0_pay21]
  exact congrArg (fun z => max (∑ k : Fin 128, x (ix2 q k) * w (ix2 k c) + z) 0) (pick f c _ (outSeg i 1) (word_seg i h 1))

include h in
/-- The third group. -/
theorem pay23_apply : k0_pay23 (Scalar.subi (BitVec.ofNat 32 (i 0).val) 4#32) (iota .tc S16x128 32 [0] iota_S16x128_d0_w32) w f x (ix2 q c)
    = rowOut w (fun k => x (ix2 q k)) (f (ix2 (outSeg i 2) c)) c := by
  unfold rowOut
  pointwise [k0_pay23]
  exact congrArg (fun z => max (∑ k : Fin 128, x (ix2 q k) * w (ix2 k c) + z) 0) (pick f c _ (outSeg i 2) (word_seg i h 2))

include h in
/-- The fourth group. -/
theorem pay8_apply : k0_pay8 w (k0_pay24 (Scalar.subi (BitVec.ofNat 32 (i 0).val) 4#32) (iota .tc S16x128 32 [0] iota_S16x128_d0_w32) f) x (ix2 q c)
    = rowOut w (fun k => x (ix2 q k)) (f (ix2 (outSeg i 3) c)) c := by
  unfold rowOut
  pointwise [k0_pay8, k0_pay24]
  exact congrArg (fun z => max (∑ k : Fin 128, x (ix2 q k) * w (ix2 k c) + z) 0) (pick f c _ (outSeg i 3) (word_seg i h 3))

/-- A group of the kept tokens, read at a row. -/
theorem rowsAt_apply (X : Vec Ideal S32768x128 .bf16) (n : ℕ) (q : Fin 2048) (k : Fin 128) (a : Fin 32768) (ha : a.val = n + q.val) :
    rowsAt X n (ix2 q k) = X (ix2 a k) := by
  unfold rowsAt
  refine congrArg X (funext fun d => Fin.ext ?_)
  match d with
  | ⟨0, _⟩ => show (n + q.val) % 32768 = a.val; have := a.isLt; omega
  | ⟨1, _⟩ => show k.val % 128 = k.val; exact Nat.mod_eq_of_lt k.isLt

/-- One of the four groups of rows of a block, whatever computes it (`hv`), at token `n`. -/
theorem piece_eq (v : Vec Ideal S2048x128 .bf16 → Vec Ideal S2048x128 .f32) (j : Fin 4)
    (hv : ∀ x q c, v x (ix2 q c) = rowOut w (fun k => x (ix2 q k)) (f (ix2 (outSeg i j) c)) c)
    (X : Vec Ideal S32768x128 .bf16) (off : ℕ) (ho : off = 8192 * ((i 0).val - 4) + 2048 * j.val) (z : S2048x128.Idx) (a : ℕ) (n : Fin 32768)
    (hn : n.val = 8192 * ((i 0).val - 4) + a) (h0 : a = 2048 * j.val + (z 0).val) (h1 : c.val = (z 1).val) :
    v (rowsAt X off) z = rowOut w (fun k => X (ix2 n k)) (f (ix2 (Cert.Arith.seg n) c)) c := by
  have hq : (z 0).val < 2048 := (z 0).isLt
  have hz : z = ix2 (⟨(z 0).val, hq⟩ : Fin 2048) c := by
    funext d
    match d with
    | ⟨0, _⟩ => rfl
    | ⟨1, _⟩ => exact Fin.ext h1.symm
  have hs : outSeg i j = Cert.Arith.seg n := by
    refine Fin.ext ?_
    rw [outSeg_val]
    show _ = n.val / 2048
    omega
  rw [hz, hv, hs]
  exact congrArg (fun x => rowOut w x _ c) (funext fun k => rowsAt_apply X off _ k n (by show n.val = off + (z 0).val; omega))

include h in
/-- The result's block at a point of the second half: row `a` is the row of token `n`. -/
theorem outBlk_apply (X : Vec Ideal S32768x128 .bf16) (a : Fin 8192) (n : Fin 32768) (hn : n.val = 8192 * ((i 0).val - 4) + a.val) :
    outBlk i w f X (ix2 a c) = rowOut w (fun k => X (ix2 n k)) (f (ix2 (Cert.Arith.seg n) c)) c := by
  unfold outBlk
  canon_tiles z hz
  · exact piece_eq i w f c _ 3 (pay8_apply i h w f) X _ rfl z a.val n hn hz0 hz1
  · exact piece_eq i w f c _ 2 (pay23_apply i h w f) X _ rfl z a.val n hn hz0 hz1
  · exact piece_eq i w f c _ 1 (pay22_apply i h w f) X _ rfl z a.val n hn hz0 hz1
  · exact piece_eq i w f c _ 0 (pay20_apply i h w f) X _ rfl z a.val n hn (hz0.trans (Nat.zero_add _).symm) hz1

/-- The accumulator of segment sums after the four blocks: each row is its segment's sum. -/
theorem segAt4 (x : Fin cfg0.N → Vec Ideal S8192x128 .f32) (r : Fin 16) (k : Fin 128) (t : Fin cfg0.N) (ht : t.val = r.val / 4) :
    segAt x 4 (ix2 r k) = blkSum (x t) k ⟨r.val % 4, Nat.mod_lt _ (by decide)⟩ := by
  have hN : cfg0.N = 8 := N_0
  have step : ∀ p : ℕ, p ≤ 4 → segAt x p (ix2 r k)
      = if r.val / 4 < p then blkSum (x t) k ⟨r.val % 4, Nat.mod_lt _ (by decide)⟩ else 0 := by
    intro p
    induction p with
    | zero => intro _; rw [if_neg (by omega)]; exact pay1_apply r k
    | succ p ih =>
      intro hp
      rw [show segAt x (p + 1) = _ from segAt_succ x ⟨p, by omega⟩, segStep_apply, ih (by omega), coords_val]
      by_cases h1 : r.val / 4 < p
      · rw [if_pos h1, if_neg (by show ¬ r.val / 4 = p; omega), if_pos (by omega), add_zero]
      · by_cases h2 : r.val / 4 = p
        · rw [if_neg h1, if_pos h2, if_pos (by omega), zero_add]
          rw [show (⟨p, _⟩ : Fin cfg0.N) = t from Fin.ext (by rw [ht]; exact h2.symm)]
        · rw [if_neg h1, if_neg h2, if_neg (by omega), add_zero]
  rw [step 4 le_rfl, if_pos (by have := r.isLt; omega)]

/-- The Gram accumulator after the four blocks. -/
theorem gramAt4 (x : Fin cfg0.N → Vec Ideal S8192x128 .f32) (k l : Fin 128) (b : Fin 4 → Fin cfg0.N) (hb : ∀ j, (b j).val = j.val) :
    gramAt x 4 (ix2 k l) = ∑ j : Fin 4, ∑ a : Fin 8192, x (b j) (ix2 a k) * x (b j) (ix2 a l) := by
  have e : ∀ j : Fin 4, gramAt x (j.val + 1) (ix2 k l)
      = gramAt x j.val (ix2 k l) + ∑ a : Fin 8192, x (b j) (ix2 a k) * x (b j) (ix2 a l) := fun j => by
    have h := gramAt_succ x (b j)
    rw [hb] at h
    rw [h]; exact pay11_apply _ _ k l
  have e0 : gramAt x 0 (ix2 k l) = 0 := pay2_apply k l
  rw [Fin.sum_univ_four]
  refine (e 3).trans (congrArg (· + _) ((e 2).trans (congrArg (· + _) ((e 1).trans (congrArg (· + _) ((e 0).trans ?_))))))
  exact (congrArg (· + _) e0).trans (zero_add _)

end Cert.KernelIdeal.Hand
end
-- ==== Proof.Value.KerReal.lean ====
/- The block of results of the kernel over the real numbers. -/
module

public import proofs.«01_k».proof.Proof.Value.Pays

@[expose] public section

set_option maxRecDepth 16384

noncomputable section

namespace Cert.KernelIdeal.Hand

open Cert.KernelIdeal Cert.KernelIdeal.Gen Idealize.ShloMosaic
open Cert.Arith hiding tok

/-- Row `a` of block `j`. -/
def row (j : Fin 4) (a : Fin 8192) : Fin 32768 := ⟨8192 * j.val + a.val, by have := j.isLt; have := a.isLt; omega⟩

/-- A sum over the tokens, block by block. -/
theorem sum_blocks {M : Type*} [AddCommMonoid M] (f : Fin 32768 → M) : ∑ n, f n = ∑ j, ∑ a, f (row j a) := by
  rw [← (finProdFinEquiv (m := 4) (n := 8192)).sum_comp f, Fintype.sum_prod_type]
  refine Finset.sum_congr rfl fun j _ => Finset.sum_congr rfl fun a _ => congrArg f (Fin.ext ?_)
  show a.val + 8192 * j.val = 8192 * j.val + a.val
  omega

/-- What the kernel reads, as real numbers: the blocks `x` of tokens and the operands `o`. -/
structure Reads (d : Input) (be : Fin 128 → EReal) (x : Fin cfg0.N → Vec Ideal S8192x128 .f32) (o : Ops Ideal) : Prop where
  x : ∀ (t : Fin cfg0.N) (j : Fin 4) (a : Fin 8192) (k : Fin 128), t.val = j.val → x t (ix2 a k) = (d.x (row j a) k : EReal)
  w1 : ∀ i c, o.w1 (ix2 i c) = (d.w1 i c : EReal)
  b1 : ∀ c, o.b1 (ix2 0 c) = (d.b1 c : EReal)
  w2 : ∀ j k, o.w2 (ix2 j k) = (d.w2 j k : EReal)
  b2 : ∀ k, o.b2 (ix2 0 k) = (d.b2 k : EReal)
  w3 : ∀ j k, o.w3 (ix2 j k) = (d.w3 j k : EReal)
  b3 : ∀ k, o.b3 (ix2 0 k) = (d.b3 k : EReal)
  g1 : ∀ c, o.g1 (ix2 0 c) = (d.g1 c : EReal)
  be : ∀ c, o.be (ix2 0 c) = be c
  y : ∀ r (j : Fin 16), hot (o.y (ix2 r 0)) j.val = d.e r j

/-- The rows of the weights that meet the tokens. -/
theorem w1a_apply (o : Ops Ideal) (k c : Fin 128) : w1a o (ix2 k c) = o.w1 (ix2 (rowA k) c) := by
  unfold w1a
  refine View.ld_unit_apply_of _ _ _ _ _ _ fun a => ?_
  match a with
  | ⟨0, _⟩ => exact (Nat.zero_add _).symm
  | ⟨1, _⟩ => exact (Nat.zero_add _).symm
/-- The rows that meet the segments' mean features. -/
theorem w1b_apply (o : Ops Ideal) (k c : Fin 128) : w1b o (ix2 k c) = o.w1 (ix2 (rowB k) c) := by
  unfold w1b
  refine View.ld_unit_apply_of _ _ _ _ _ _ fun a => ?_
  match a with
  | ⟨0, _⟩ => rfl
  | ⟨1, _⟩ => exact (Nat.zero_add _).symm
/-- The rows that meet the segments' class features. -/
theorem w1c_apply (o : Ops Ideal) (k : Fin 1024) (c : Fin 128) : w1c o (ix2 k c) = o.w1 (ix2 (rowC k) c) := by
  unfold w1c
  refine View.ld_unit_apply_of _ _ _ _ _ _ fun a => ?_
  match a with
  | ⟨0, _⟩ => rfl
  | ⟨1, _⟩ => exact (Nat.zero_add _).symm

variable {d : Input} {be : Fin 128 → EReal} {x : Fin cfg0.N → Vec Ideal S8192x128 .f32} {o : Ops Ideal} (R : Reads d be x o)

/-- Point `j` of the first half. -/
def pt4 (j : Fin 4) : Fin cfg0.N := ⟨j.val, by have h : cfg0.N = 8 := N_0; have := j.isLt; omega⟩

include R in
/-- The first accumulator ends as the segments' sums of tokens. -/
theorem seg_real (r : Fin 16) (k : Fin 128) : segAt x 4 (ix2 r k) = (sums d r k : EReal) := by
  have hr := r.isLt
  rw [segAt4 x r k (pt4 ⟨r.val / 4, by omega⟩) rfl]
  unfold blkSum sums
  rw [coe_sum]
  refine Finset.sum_congr rfl fun q _ => (R.x _ ⟨r.val / 4, by omega⟩ _ _ rfl).trans (congrArg (fun n => (d.x n k : EReal)) (Fin.ext ?_))
  show 8192 * (r.val / 4) + (r.val % 4 * 2048 + q.val) = r.val * 2048 + q.val
  omega

include R in
/-- The second ends as the Gram matrix of all tokens. -/
theorem gram_real (k l : Fin 128) : gramAt x 4 (ix2 k l) = (gram d k l : EReal) := by
  rw [gramAt4 x k l pt4 (fun _ => rfl)]
  unfold gram
  rw [sum_blocks]
  simp only [R.x _ _ _ _ (show (pt4 _).val = _ from rfl), ← EReal.coe_mul, ← coe_sum]

/-- The payloads at the fourth point, from the operands and the two accumulators. -/
abbrev P14 (o : Ops Ideal) (s : Vec Ideal S16x128 .f32) := k0_pay14 (w1b o) (w1c o) o.b1 o.b2 s o.w2 o.y o.w3 o.b3
/-- The sum of a segment's offsets over the segments, as the kernel computes it. -/
abbrev P18 (o : Ops Ideal) (s : Vec Ideal S16x128 .f32) := k0_pay18 (w1b o) (w1c o) o.b1 o.b2 s o.w2 o.y o.w3 o.b3

include R in
/-- What a segment adds to the layer's output at each of its tokens. -/
theorem beta_real (r : Fin 16) (c : Fin 128) : P14 o (segAt x 4) (ix2 r c) = (beta d r c : EReal) := by
  unfold P14
  rw [pay14_apply]
  unfold beta h2 h3
  simp only [seg_real R, R.w2, R.b2, R.w3, R.b3, R.b1, R.y, w1b_apply, w1c_apply, R.w1, ← EReal.coe_mul, ← coe_sum, ← EReal.coe_add, ← coe_relu,
    mul_one_div]

include R in
/-- Its sum over the segments. -/
theorem betaSum_real (c : Fin 128) : P18 o (segAt x 4) (ix2 0 c) = ((∑ r, beta d r c : ℝ) : EReal) := by
  unfold P18
  rw [pay18_apply, coe_sum]
  exact Finset.sum_congr rfl fun r _ => beta_real R r c

include R in
/-- The sum over a segment of what its tokens contribute to the layer. -/
theorem segLin_real (r : Fin 16) (c : Fin 128) : k0_pay15 (w1a o) (segAt x 4) (ix2 r c) = (segLin d r c : EReal) := by
  rw [pay15_apply]
  unfold segLin
  simp only [seg_real R, w1a_apply, R.w1, ← EReal.coe_mul, ← coe_sum]

include R in
/-- Its sum over the segments. -/
theorem linSum_real (c : Fin 128) : k0_pay16 (w1a o) (segAt x 4) (ix2 0 c) = ((∑ r, segLin d r c : ℝ) : EReal) := by
  rw [pay16_apply]
  unfold segLin
  simp only [seg_real R, w1a_apply, R.w1, ← EReal.coe_mul, ← coe_sum]

include R in
/-- The quadratic form of the Gram matrix in a column of the weights. -/
theorem quad_real (c : Fin 128) : k0_pay17 (w1a o) (gramAt x 4) (ix2 0 c) = (quad d c : EReal) := by
  rw [pay17_apply]
  unfold quad
  simp only [gram_real R, w1a_apply, R.w1, ← EReal.coe_mul, ← coe_sum]

include R in
/-- The kernel's mean. -/
theorem mean_real (c : Fin 128) : k0_pay4 (k0_pay16 (w1a o) (segAt x 4)) (P18 o (segAt x 4)) k0_pay19 (ix2 0 c) = (kmean d c : EReal) := by
  rw [pay4_apply, linSum_real R, betaSum_real R, pay19_apply, ← EReal.coe_mul, ← EReal.coe_add, div_coe _ (by norm_num : (32768 : ℝ) ≠ 0)]
  rfl

/-- The factor of the normalisation. -/
def fac (d : Input) (c : Fin 128) : ℝ := (Real.sqrt (var d c + eps))⁻¹

include R in
/-- The kernel's factor of a column: the normalisation's over the root of the variance. -/
theorem scale_real (c : Fin 128) :
    k0_pay5 o.g1 (P14 o (segAt x 4)) (k0_pay15 (w1a o) (segAt x 4)) (k0_pay16 (w1a o) (segAt x 4)) (k0_pay17 (w1a o) (gramAt x 4))
      (P18 o (segAt x 4)) k0_pay19 (ix2 0 c) = ((d.g1 c * fac d c : ℝ) : EReal) := by
  have hp : 0 < kvar d c + eps := by rw [kvar_eq]; exact add_pos_of_nonneg_of_pos (var_nonneg d c) eps_pos
  rw [pay5_apply, mean_real R, quad_real R, R.g1]
  simp only [beta_real R, segLin_real R, ← EReal.coe_mul, ← coe_sum, ← EReal.coe_add, div_coe _ (by norm_num : (32768 : ℝ) ≠ 0), ← EReal.coe_sub]
  refine (congrArg (fun z => (d.g1 c : EReal) * z) (rsqrt_coe hp)).trans ?_
  rw [← EReal.coe_mul, kvar_eq]
  rfl

include R in
/-- The scaled weights. -/
theorem w1s_real (k c : Fin 128) : w1sV o (segAt x 4) (gramAt x 4) (ix2 k c) = ((d.w1 (rowA k) c * (d.g1 c * fac d c) : ℝ) : EReal) := by
  unfold w1sV
  rw [pay6_apply, scale_real R, w1a_apply, R.w1, ← EReal.coe_mul]

include R in
/-- The offset of a segment. -/
theorem offs_real (r : Fin 16) (c : Fin 128) : offsV o (segAt x 4) (gramAt x 4) (ix2 r c)
    = ((beta d r c * (d.g1 c * fac d c) : ℝ) : EReal) + (be c - ((kmean d c * (d.g1 c * fac d c) : ℝ) : EReal)) := by
  unfold offsV
  have hb := beta_real R r c
  unfold P14 at hb
  rw [pay7_apply, scale_real R, mean_real R, hb, R.be, ← EReal.coe_mul, ← EReal.coe_mul]

include R in
/-- The tokens kept in the shorter format are the tokens. -/
theorem tok_real (n : Fin 32768) (k : Fin 128) : tok x (ix2 n k) = (d.x n k : EReal) := by
  have hn := n.isLt
  have hi : inBlk (ix2 n k) = ix2 (⟨n.val % 8192, Nat.mod_lt _ (by decide)⟩ : Fin 8192) k := by
    funext b
    match b with
    | ⟨0, _⟩ => rfl
    | ⟨1, _⟩ => exact Fin.ext (Nat.mod_eq_of_lt k.isLt)
  unfold tok
  rw [hi]
  refine (pay10_apply _ _ _).trans ((R.x _ ⟨n.val / 8192, by omega⟩ _ _ rfl).trans (congrArg (fun n => (d.x n k : EReal)) (Fin.ext ?_)))
  show 8192 * (n.val / 8192) + n.val % 8192 = n.val
  omega

/-- A sum with the normalisation's offset, its real part taken together. -/
theorem regroup (a b m : ℝ) (e : EReal) : (a : EReal) + ((b : EReal) + (e - (m : EReal))) = ((a + b - m : ℝ) : EReal) + e := by
  rw [sub_eq_add_neg, sub_eq_add_neg, EReal.coe_add, EReal.coe_add, EReal.coe_neg]
  ac_rfl

include R in
/-- An element of the result's block at a point of the second half. -/
theorem outBlk_real (i : grid0.Coords) (h : 4 ≤ (i 0).val) (a : Fin 8192) (n : Fin 32768) (hn : n.val = 8192 * ((i 0).val - 4) + a.val) (c : Fin 128) :
    outBlk i (w1sV o (segAt x 4) (gramAt x 4)) (offsV o (segAt x 4) (gramAt x 4)) (tok x) (ix2 a c)
      = max ((((pre d n c - mean d c) * fac d c * d.g1 c : ℝ) : EReal) + be c) 0 := by
  rw [outBlk_apply i h _ _ c (tok x) a n hn]
  unfold rowOut
  rw [offs_real R]
  simp only [tok_real R, w1s_real R, ← EReal.coe_mul, ← coe_sum]
  rw [regroup, out_eq]

end Cert.KernelIdeal.Hand
end
-- ==== Proof.Value.KerRead.lean ====
/- What the kernel's blocks and operands hold of the arguments, and its result from the blocks written back. -/
module

public import proofs.«01_k».proof.Proof.Value.KerReal
public import proofs.«01_k».proof.Proof.Ideal.Main
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Hand

open Cert.KernelIdeal Cert.KernelIdeal.Gen Idealize.ShloMosaic Idealize.ShloMosaic.TcCoe
open Cert.Arith hiding tok

variable (m : (ℓ : Loc nD τ sig) → Buf (Elt Ideal) ℓ) (c : Dev nD)

/-- The blocks of the tokens and of the result, by point. -/
theorem idx0 : ∀ t : Fin cfg0.N, win0_0.index t = ![min t.val 3, 0] := (by decide +kernel : ∀ t : Fin grid0.N, _)
/-- The result's block is the first in the first half and its own in the second. -/
theorem idx1 : ∀ t : Fin cfg0.N, win0_1.index t = ![t.val - 4, 0] := (by decide +kernel : ∀ t : Fin grid0.N, _)
/-- The result's blocks are written back in the second half alone. -/
theorem flush1 : ∀ t : Fin cfg0.N, (cfg0.win 1).flush t = true → 4 ≤ t.val := (by decide +kernel : ∀ t : Fin grid0.N, _)

/-- A block of the first half holds its rows of the tokens. -/
theorem block_read (t : Fin cfg0.N) (j : Fin 4) (a : Fin 8192) (k : Fin 128) (h : t.val = j.val) :
    xs m c t (ix2 a k) = m ((c : Thread nD τ).loc main_arg1) (ix2 (row j a) k) := by
  have hj := j.isLt
  have hm : min t.val 3 = j.val := by omega
  blk_simp [xs, iblk]
  rw [V_main_arg1]
  refine congrArg (m ((c : Thread nD τ).loc main_arg1)) ?_
  funext b
  match b with
  | ⟨0, _⟩ => exact Fin.ext (by blk_simp [idx0 t]; show min t.val 3 * 8192 + a.val = 8192 * j.val + a.val; omega)
  | ⟨1, _⟩ => exact Fin.ext (by blk_simp [idx0 t])

/-- The first layer's weights are the argument's. -/
theorem ops_w1 (i : Fin 1280) (k : Fin 128) : (ops m c).w1 (ix2 i k) = m ((c : Thread nD τ).loc main_arg4) (ix2 i k) :=
  congrFun (V_main_arg4 m c) _
/-- So are the second's. -/
theorem ops_w2 (i : Fin 128) (k : Fin 128) : (ops m c).w2 (ix2 i k) = m ((c : Thread nD τ).loc main_arg8) (ix2 i k) :=
  congrFun (V_main_arg8 m c) _
/-- So are the third's. -/
theorem ops_w3 (i : Fin 16) (k : Fin 1024) : (ops m c).w3 (ix2 i k) = m ((c : Thread nD τ).loc main_arg10) (ix2 i k) :=
  congrFun (V_main_arg10 m c) _
/-- The third layer's bias, laid out as one row, is the argument's. -/
theorem ops_b3 (k : Fin 1024) : (ops m c).b3 (ix2 0 k) = m ((c : Thread nD τ).loc main_arg11) (ix1 k) := by
  show V m c main_v1 (ix2 0 k) = _
  entry_read; pointwise
/-- So is the first layer's. -/
theorem ops_b1 (k : Fin 128) : (ops m c).b1 (ix2 0 k) = m ((c : Thread nD τ).loc main_arg5) (ix1 k) := by
  show V m c main_v2 (ix2 0 k) = _
  entry_read; pointwise
/-- So is the second's. -/
theorem ops_b2 (k : Fin 128) : (ops m c).b2 (ix2 0 k) = m ((c : Thread nD τ).loc main_arg9) (ix1 k) := by
  show V m c main_v3 (ix2 0 k) = _
  entry_read; pointwise
/-- So is the normalisation's factor. -/
theorem ops_g1 (k : Fin 128) : (ops m c).g1 (ix2 0 k) = m ((c : Thread nD τ).loc main_arg6) (ix1 k) := by
  show V m c main_v4 (ix2 0 k) = _
  entry_read; pointwise
/-- So is its offset. -/
theorem ops_be (k : Fin 128) : (ops m c).be (ix2 0 k) = m ((c : Thread nD τ).loc main_arg7) (ix1 k) := by
  show V m c main_v5 (ix2 0 k) = _
  entry_read; pointwise
/-- The classes, laid out as one column, are the argument's. -/
theorem ops_y (r : Fin 16) : (ops m c).y (ix2 r 0) = m ((c : Thread nD τ).loc main_arg3) (ix1 r) := by
  show V m c main_v0 (ix2 r 0) = _
  entry_read; pointwise

/-- The result's array, when every row of each written block is `G`'s. -/
theorem result_of (G : Vec Ideal S32768x128 .f32)
    (hG : ∀ t : Fin cfg0.N, 4 ≤ t.val → ∀ (a : Fin 8192) (k : Fin 128) (n : Fin 32768), n.val = 8192 * (t.val - 4) + a.val →
      outBlk (grid0.coords t) (w1sV (ops m c) (segAt (xs m c) 4) (gramAt (xs m c) 4)) (offsV (ops m c) (segAt (xs m c) 4) (gramAt (xs m c) 4))
        (tok (xs m c)) (ix2 a k) = G (ix2 n k)) :
    (dats m 0 c).arrAt 1 cfg0.N = G := by
  refine (dats m 0 c).arrAt_eq_of_covers 1 _ (by decide +kernel) fun t hf y => ?_
  have ht := flush1 t hf
  blk_simp
  rw [after1_eq]
  have hN : cfg0.N = 8 := N_0
  have h8 : t.val < 8 := hN ▸ t.isLt
  have ha : (y 0).val < 8192 := (y 0).isLt
  have hk : (y 1).val < 128 := (y 1).isLt
  have hy : y = ix2 (⟨(y 0).val, ha⟩ : Fin 8192) (⟨(y 1).val, hk⟩ : Fin 128) := by
    funext b
    match b with
    | ⟨0, _⟩ => rfl
    | ⟨1, _⟩ => rfl
  refine (congrArg (outBlk (grid0.coords t) (w1sV (ops m c) (segAt (xs m c) 4) (gramAt (xs m c) 4)) (offsV (ops m c) (segAt (xs m c) 4) (gramAt (xs m c) 4))
    (tok (xs m c))) hy).trans ((hG t ht _ _ ⟨8192 * (t.val - 4) + (y 0).val, by omega⟩ rfl).trans (congrArg G ?_))
  funext b
  match b with
  | ⟨0, _⟩ => exact Fin.ext (by blk_simp [idx1 t]; show 8192 * (t.val - 4) + (y 0).val = (t.val - 4) * 8192 + (y 0).val; omega)
  | ⟨1, _⟩ => exact Fin.ext (by blk_simp [idx1 t]; rfl)

end Cert.KernelIdeal.Hand
end
-- ==== Proof.Value.RefDefs.lean ====
/- The reference's result taken apart: its segment ids, segment sums, features, what it normalises, and the normalisation. -/
module

public import proofs.«01_k».proof.Proof.Gen.ReferenceIdeal.Run
public import proofs.«01_k».proof.Proof.Value.Lift
public import proofs.«01_k».proof.Proof.Value.Real
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal.Hand

open Cert.ReferenceIdeal Cert.ReferenceIdeal.Gen Idealize.ShloMosaic Idealize.ShloMosaic.TcCoe

/-- The segment of each token: the number of segment ends at or before it. -/
def segIds (o : IVec S16 32) : IVec S32768 32 :=
  Host.reduce IntOp.addi
    (extui 32 (cmpi .sle (broadcastInDim S32768x16 ![0, 1] bcast_S1x16_S32768x16_0_1 (broadcastInDim S1x16 ![1] bcast_S16_S1x16_1 o))
      (broadcastInDim S32768x16 ![0, 1] bcast_S32768x1_S32768x16_0_1 (broadcastInDim S32768x1 ![0] bcast_S32768_S32768x1_0 (iotaInDim S32768 32 0))))
      natLt_1_32)
    (constantI S_ 32 0#32) reducesTo_S32768x16_S32768_d1 h_S_

/-- The same as a column. -/
def segCol (o : IVec S16 32) : IVec S32768x1 32 := broadcastInDim S32768x1 ![0] bcast_S32768_S32768x1_0 (segIds o)

/-- The row each token takes its segment's features from: the segment, one below zero counted from the end. -/
def segRow (o : IVec S16 32) : IVec S32768x1 32 :=
  broadcastInDim S32768x1 ![0] bcast_S32768_S32768x1_0
    (select (cmpi .slt (segIds o) (broadcastInDim S32768 ![] bcast_S_S32768 (constantI S_ 32 0#32)))
      (addi (segIds o) (broadcastInDim S32768 ![] bcast_S_S32768 (constantI S_ 32 16#32))) (segIds o))

/-- The number of tokens of each segment. -/
def counts (o : IVec S16 32) : FVec Ideal S16 .f32 :=
  sitofp .f32 (concatenate S16 0 [⟨S1, (extractStridedSlice S1 ![0] o slices_S16_S1_0)⟩,
    ⟨S15, (subi (extractStridedSlice S15 ![1] o slices_S16_S15_1) (extractStridedSlice S15 ![0] o slices_S16_S15_0))⟩] concatenates_S1_S15_S16_d0)

/-- The sum of each segment's tokens. -/
def segSums (o : IVec S16 32) (x : FVec Ideal S32768x128 .f32) : FVec Ideal S16x128 .f32 :=
  Host.scatterAdd scatter_S16x128_S32768x1_S32768x128_1_0_0_1 (broadcastInDim S16x128 ![] bcast_S_S16x128 (constant S_ .f32 0x00000000#32))
    (segCol o) x

/-- The feature of each segment's mean. -/
def meanFeat (s : FVec Ideal S16x128 .f32) (n : FVec Ideal S16 .f32) (w2 : FVec Ideal S128x128 .f32) (b2 : FVec Ideal S128 .f32) :
    FVec Ideal S16x128 .f32 :=
  maximumf (addf (Host.dotGeneral dot_S16x128_S128x128_S16x128_1_0_0_1_n_n none
      (Host.divf s (broadcastInDim S16x128 ![0, 1] bcast_S16x1_S16x128_0_1 (broadcastInDim S16x1 ![0] bcast_S16_S16x1_0 n))) w2)
    (broadcastInDim S16x128 ![0, 1] bcast_S1x128_S16x128_0_1 (broadcastInDim S1x128 ![1] bcast_S128_S1x128_1 b2)))
    (broadcastInDim S16x128 ![] bcast_S_S16x128 (constant S_ .f32 0x00000000#32))

/-- The feature of each segment's category. -/
def catFeat (y : IVec S16 32) (w3 : FVec Ideal S16x1024 .f32) (b3 : FVec Ideal S1024 .f32) : FVec Ideal S16x1024 .f32 :=
  maximumf (addf (Host.dotGeneral dot_S16x16_S16x1024_S16x1024_1_0_0_1_n_n none
      (uitofp .f32 (cmpi .eq (broadcastInDim S16x16 ![0, 1] bcast_S16x1_S16x16_0_1 (broadcastInDim S16x1 ![0] bcast_S16_S16x1_0 y))
        (broadcastInDim S16x16 ![0, 1] bcast_S1x16_S16x16_0_1 (iotaInDim S1x16 32 1)))) w3)
    (broadcastInDim S16x1024 ![0, 1] bcast_S1x1024_S16x1024_0_1 (broadcastInDim S1x1024 ![1] bcast_S1024_S1x1024_1 b3)))
    (broadcastInDim S16x1024 ![] bcast_S_S16x1024 (constant S_ .f32 0x00000000#32))

/-- What is normalised, from the tokens, the two features' tables and the rows the tokens take. -/
def lin (x : FVec Ideal S32768x128 .f32) (f2 : FVec Ideal S16x128 .f32) (f3 : FVec Ideal S16x1024 .f32) (r : IVec S32768x1 32)
    (w1 : FVec Ideal S1280x128 .f32) (b1 : FVec Ideal S128 .f32) : FVec Ideal S32768x128 .f32 :=
  addf (Host.dotGeneral dot_S32768x1280_S1280x128_S32768x128_1_0_0_1_n_n none
      (concatenate S32768x1280 1 [⟨S32768x128, x⟩, ⟨S32768x128, Host.gather gather_S16x128_S32768x1_S32768x128_1_0_n_n_0_1_1128 f2 r⟩,
        ⟨S32768x1024, Host.gather gather_S16x1024_S32768x1_S32768x1024_1_0_n_n_0_1_11024 f3 r⟩]
        concatenates_S32768x128_S32768x128_S32768x1024_S32768x1280_d1) w1)
    (broadcastInDim S32768x128 ![0, 1] bcast_S1x128_S32768x128_0_1 (broadcastInDim S1x128 ![1] bcast_S128_S1x128_1 b1))

/-- The column sums of what is normalised. -/
def colSum (h : FVec Ideal S32768x128 .f32) : FVec Ideal S128 .f32 :=
  Host.reduceAdd h (constant S_ .f32 0x00000000#32) reducesTo_S32768x128_S128_d0 h_S_

/-- What is normalised less its mean. -/
def dev (h : FVec Ideal S32768x128 .f32) : FVec Ideal S32768x128 .f32 :=
  subf h (broadcastInDim S32768x128 ![0, 1] bcast_S1x128_S32768x128_0_1 (broadcastInDim S1x128 ![1] bcast_S128_S1x128_1
    (Host.divf (colSum h) (broadcastInDim S128 ![] bcast_S_S128 (constant S_ .f32 0x47000000#32)))))

/-- The same, as the variance takes it. -/
def dev' (h : FVec Ideal S32768x128 .f32) : FVec Ideal S32768x128 .f32 :=
  subf h (broadcastInDim S32768x128 ![0, 1] bcast_S1x128_S32768x128_0_1 (Host.divf (broadcastInDim S1x128 ![1] bcast_S128_S1x128_1 (colSum h))
    (broadcastInDim S1x128 ![] bcast_S_S1x128 (constant S_ .f32 0x47000000#32))))

/-- The number the variance divides by. -/
def varDen : FVec Ideal S_ .f32 := subf (constant S_ .f32 0x47000000#32) (sitofp .f32 (constantI S_ 32 0#32))

/-- The variance from the squares' sum. -/
def variance (s : FVec Ideal S128 .f32) : FVec Ideal S128 .f32 :=
  select (broadcastInDim S128 ![] bcast_S_S128 (cmpf .ogt varDen (constant S_ .f32 0x00000000#32)))
    (Host.divf s (broadcastInDim S128 ![] bcast_S_S128 varDen))
    (broadcastInDim S128 ![] bcast_S_S128 (id (constant S_ .f32 0x7FC00000#32)))

/-- The normalisation and the cut at zero. -/
def norm (d : FVec Ideal S32768x128 .f32) (v g1 be : FVec Ideal S128 .f32) : FVec Ideal S32768x128 .f32 :=
  maximumf (addf (mulf (Host.divf d (broadcastInDim S32768x128 ![0, 1] bcast_S1x128_S32768x128_0_1 (broadcastInDim S1x128 ![1] bcast_S128_S1x128_1
      (Host.sqrt (addf v (broadcastInDim S128 ![] bcast_S_S128 (constant S_ .f32 0x3727C5AC#32)))))))
      (broadcastInDim S32768x128 ![0, 1] bcast_S1x128_S32768x128_0_1 (broadcastInDim S1x128 ![1] bcast_S128_S1x128_1 g1)))
    (broadcastInDim S32768x128 ![0, 1] bcast_S1x128_S32768x128_0_1 (broadcastInDim S1x128 ![1] bcast_S128_S1x128_1 be)))
    (broadcastInDim S32768x128 ![] bcast_S_S32768x128 (constant S_ .f32 0x00000000#32))

/-- The reference's result from what it normalises. -/
def result (h : FVec Ideal S32768x128 .f32) (g1 be : FVec Ideal S128 .f32) : FVec Ideal S32768x128 .f32 :=
  norm (dev h) (variance (colSum (mulf (dev' h) (dev' h)))) g1 be

/-- What the reference normalises, from its arguments. -/
def normed (m : (ℓ : Loc nD τ sig) → Buf (Elt Ideal) ℓ) (c : Dev nD) : FVec Ideal S32768x128 .f32 :=
  lin (m ((c.tc : Thread nD τ).loc main_arg1))
    (meanFeat (segSums (m ((c.tc : Thread nD τ).loc main_arg2)) (m ((c.tc : Thread nD τ).loc main_arg1))) (counts (m ((c.tc : Thread nD τ).loc main_arg2)))
      (m ((c.tc : Thread nD τ).loc main_arg8)) (m ((c.tc : Thread nD τ).loc main_arg9)))
    (catFeat (m ((c.tc : Thread nD τ).loc main_arg3)) (m ((c.tc : Thread nD τ).loc main_arg10)) (m ((c.tc : Thread nD τ).loc main_arg11)))
    (segRow (m ((c.tc : Thread nD τ).loc main_arg2))) (m ((c.tc : Thread nD τ).loc main_arg4)) (m ((c.tc : Thread nD τ).loc main_arg5))

/-- The reference's result, as the normalised layer with its ReLU. -/
theorem result_eq (m : (ℓ : Loc nD τ sig) → Buf (Elt Ideal) ℓ) (c : Dev nD) :
    Value.res_main_v69 m c = result (normed m c) (m ((c.tc : Thread nD τ).loc main_arg6)) (m ((c.tc : Thread nD τ).loc main_arg7)) := by
  unfold Value.res_main_v69
  rfl

end Cert.ReferenceIdeal.Hand
end
-- ==== Proof.Value.RefRead.lean ====
/- The parts of the reference's result, element by element. -/
module

public import proofs.«01_k».proof.Proof.Value.RefDefs

@[expose] public section

set_option maxRecDepth 16384

noncomputable section

namespace Cert.ReferenceIdeal.Hand

open Cert.ReferenceIdeal Cert.ReferenceIdeal.Gen Idealize.ShloMosaic Idealize.ShloMosaic.TcCoe
open Cert.Arith (hot seg tok sum_tok rowA rowB rowC)

/-- The segments' ends: `2048` tokens in every segment. -/
def Ends (o : IVec S16 32) : Prop := ∀ k : Fin 16, o (ix1 k) = BitVec.ofNat 32 ((k.val + 1) * 2048)

/-- How many numbers below `n` lie below `k`. -/
theorem count_below (k : ℕ) : ∀ n : ℕ, Nat.count (fun q => q < k) n = min k n
  | 0 => by simp
  | n + 1 => by
    rw [Nat.count_succ, count_below k n]
    by_cases h : n < k
    · rw [if_pos h]; omega
    · rw [if_neg h]; omega

/-- The signed comparison of small words is that of the numbers. -/
theorem sle_iff {a b : ℕ} (ha : a < 2 ^ 31) (hb : b < 2 ^ 31) :
    IntOp.cmpi CmpIPredicate.sle (BitVec.ofNat 32 a) (BitVec.ofNat 32 b) = 1#1 ↔ a ≤ b := by
  have h1 := StableHlo.Predicate.toInt_ofNat_small a ha
  have h2 := StableHlo.Predicate.toInt_ofNat_small b hb
  simp only [IntOp.cmpi, BitVec.sle, h1, h2, Nat.cast_le]
  by_cases h : a ≤ b <;> simp [h]

variable {o : IVec S16 32} (ho : Ends o)

include ho in
/-- With equal segments the count of ends at or before a token is the token's segment. -/
theorem segIds_apply (n : Fin 32768) : segIds o (ix1 n) = BitVec.ofNat 32 (seg n).val := by
  have hn := n.isLt
  unfold segIds
  refine (Routing.reduce_count (by decide) _ natLt_1_32 reducesTo_S32768x16_S32768_d1 h_S_ n (fun q => q < n.val / 2048) fun q => ?_).trans ?_
  · have hq := q.isLt
    pointwise
    show IntOp.cmpi CmpIPredicate.sle (o (ix1 q)) (BitVec.ofNat 32 n.val) = 1#1 ↔ _
    rw [ho q, sle_iff (by omega) (by omega)]
    omega
  · rw [count_below, Nat.min_eq_left (by omega)]; rfl

include ho in
/-- The same as a column, for the sums. -/
theorem segCol_apply (n : Fin 32768) : segCol o (ix2 n 0) = BitVec.ofNat 32 (seg n).val := by
  pointwise [segCol]
  exact segIds_apply ho n

include ho in
/-- The same as a column, for reading the features back. -/
theorem segRow_apply (n : Fin 32768) : segRow o (ix2 n 0) = BitVec.ofNat 32 (seg n).val := by
  pointwise [segRow]
  rw [segIds_apply ho n]
  generalize seg n = s
  revert s; decide

/-- The word 2048 as a number. -/
theorem two_k : (FloatOps.sitofp (F := Ideal) FTy.f32 2048#32 : EReal) = ((2048 : ℝ) : EReal) := by
  show (((2048#32).toInt : ℝ) : EReal) = _
  rw [show (2048#32).toInt = 2048 by decide]
  norm_num

include ho in
/-- Every segment has 2048 tokens. -/
theorem counts_apply (s : Fin 16) : counts o (ix1 s) = ((2048 : ℝ) : EReal) := by
  pointwise [counts]
  have hs := s.isLt
  by_cases h : s.val < 1
  · rw [dif_pos h, ho, show (s.val + 1) * 2048 = 2048 by omega]
    exact two_k
  · rw [dif_neg h, ho, ho, show IntOp.subi (BitVec.ofNat 32 ((1 + (s.val - 1) + 1) * 2048)) (BitVec.ofNat 32 ((s.val - 1 + 1) * 2048)) = 2048#32 by
      revert s; decide]
    exact two_k

/-- Where the scatter puts an element: in the row its word names, in its own column. -/
theorem lands (idx : IVec S32768x1 32) (n : Fin 32768) (j : Fin 128) (s : Fin 16) (c : Fin 128) (k : Fin 16) (hk : idx (ix2 n 0) = BitVec.ofNat 32 k.val) :
    scatter_S16x128_S32768x1_S32768x128_1_0_0_1.resultIdx? (ix2 n j) idx = some (ix2 s c) ↔ k = s ∧ j = c := by
  have h0 : scatter_S16x128_S32768x1_S32768x128_1_0_0_1.window (ix2 n j) 0 = 0 := rfl
  have h1 : scatter_S16x128_S32768x1_S32768x128_1_0_0_1.window (ix2 n j) 1 = j.val := rfl
  have g0 : scatter_S16x128_S32768x1_S32768x128_1_0_0_1.start (ix2 n j) idx 0 = (idx (ix2 n 0)).toInt := by
    refine congrArg (fun i => (idx i).toInt) (funext fun d => ?_)
    match d with
    | ⟨0, _⟩ => rfl
    | ⟨1, _⟩ => rfl
  have g1 : scatter_S16x128_S32768x1_S32768x128_1_0_0_1.start (ix2 n j) idx 1 = 0 := rfl
  have hk' := StableHlo.Predicate.toInt_ofNat_small k.val (by have := k.isLt; omega)
  rw [hk, hk'] at g0
  refine (Routing.resultIdx?_ix2 _ _ _ s c).trans ?_
  show scatter_S16x128_S32768x1_S32768x128_1_0_0_1.start (ix2 n j) idx 0 + (scatter_S16x128_S32768x1_S32768x128_1_0_0_1.window (ix2 n j) 0 : ℤ) = _
    ∧ scatter_S16x128_S32768x1_S32768x128_1_0_0_1.start (ix2 n j) idx 1 + (scatter_S16x128_S32768x1_S32768x128_1_0_0_1.window (ix2 n j) 1 : ℤ) = _ ↔ _
  rw [h0, h1, g0, g1, Fin.ext_iff, Fin.ext_iff]
  omega

open Classical in
/-- A scattered sum at an index: the operand's element and every update that lands there. -/
theorem scatterAdd_apply {s si u : Shape} {w : ℕ} (d : ScatterDims s si u) (x : FVec Ideal s .f32) (idx : IVec si w) (v : FVec Ideal u .f32) (i : s.Idx) :
    Host.scatterAdd d x idx v i = x i + ∑ j, if d.resultIdx? j idx = some i then v j else 0 := by
  show Ideal.hostScatterAdd d x idx v i = _
  unfold Ideal.hostScatterAdd
  rw [Finset.sum_filter]

/-- What an element adds there. -/
theorem landed {P : Prop} [Decidable P] {k s : Fin 16} {j c : Fin 128} (h : P ↔ k = s ∧ j = c) (v : EReal) :
    (if P then v else 0) = if j = c then (if k = s then v else 0) else 0 := by
  by_cases h1 : k = s <;> by_cases h2 : j = c <;> simp [h1, h2, h]

include ho in
/-- The scattered sums are the sums over the segments. -/
theorem segSums_apply (x : FVec Ideal S32768x128 .f32) (s : Fin 16) (c : Fin 128) :
    segSums o x (ix2 s c) = ∑ q : Fin 2048, x (ix2 (tok s q) c) := by
  have h0 : broadcastInDim S16x128 ![] bcast_S_S16x128 (constant (F := Ideal) S_ .f32 0x00000000#32) (ix2 s c) = (0 : EReal) := by pointwise
  unfold segSums
  refine (scatterAdd_apply _ _ _ _ _).trans ?_
  rw [h0, zero_add, sum_idx2]
  rw [Finset.sum_congr rfl fun n _ => (Finset.sum_congr rfl fun j _ => landed (lands (segCol o) n j s c (seg n) (segCol_apply ho n)) (x (ix2 n j))).trans
    ((Finset.sum_ite_eq' Finset.univ c _).trans (if_pos (Finset.mem_univ c))), sum_tok]
  simp only [Cert.Arith.seg_tok]
  rw [Finset.sum_comm]
  exact Finset.sum_congr rfl fun q _ => (Finset.sum_ite_eq' Finset.univ s _).trans (if_pos (Finset.mem_univ s))

/-- A mean feature of a segment: the layer on its mean, with its ReLU. -/
theorem meanFeat_apply (s : FVec Ideal S16x128 .f32) (n : FVec Ideal S16 .f32) (w2 : FVec Ideal S128x128 .f32) (b2 : FVec Ideal S128 .f32)
    (r : Fin 16) (k : Fin 128) :
    meanFeat s n w2 b2 (ix2 r k) = max (∑ j : Fin 128, Ideal.div (s (ix2 r j)) (n (ix1 r)) * w2 (ix2 j k) + b2 (ix1 k)) 0 := by
  pointwise [meanFeat]

/-- The reference's comparison of a class with a column, as a number. -/
theorem hot_unsigned (y : BitVec 32) (k : ℕ) :
    (FloatOps.uitofp (F := Ideal) FTy.f32 (IntOp.cmpi CmpIPredicate.eq y (BitVec.ofNat 32 k)) : EReal) = (hot y k : EReal) := by
  unfold hot
  by_cases h : y = BitVec.ofNat 32 k
  · rw [if_pos h, h, show IntOp.cmpi CmpIPredicate.eq (BitVec.ofNat 32 k) (BitVec.ofNat 32 k) = 1#1 by simp [IntOp.cmpi]]
    show (((1#1).toNat : ℝ) : EReal) = _
    simp
  · rw [if_neg h, show IntOp.cmpi CmpIPredicate.eq y (BitVec.ofNat 32 k) = 0#1 by simp [IntOp.cmpi, beq_eq_false_iff_ne.2 h]]
    show (((0#1).toNat : ℝ) : EReal) = _
    simp

/-- A class feature of a segment: the layer on its one-hot row, with its ReLU. -/
theorem catFeat_apply (y : IVec S16 32) (w3 : FVec Ideal S16x1024 .f32) (b3 : FVec Ideal S1024 .f32) (r : Fin 16) (k : Fin 1024) :
    catFeat y w3 b3 (ix2 r k) = max (∑ j : Fin 16, (hot (y (ix1 r)) j.val : EReal) * w3 (ix2 j k) + b3 (ix1 k)) 0 := by
  pointwise [catFeat]
  simp only [hot_unsigned]

/-- The mean features read back at a token are its segment's. -/
theorem gather2 (f : FVec Ideal S16x128 .f32) (r : IVec S32768x1 32) (n : Fin 32768) (k : Fin 128) (b : Fin 16) (hb : r (ix2 n 0) = BitVec.ofNat 32 b.val) :
    Host.gather gather_S16x128_S32768x1_S32768x128_1_0_n_n_0_1_1128 f r (ix2 n k) = f (ix2 b k) :=
  Routing.gather_row gather_S16x128_S32768x1_S32768x128_1_0_n_n_0_1_1128 rfl rfl rfl rfl rfl f r n k b hb (by decide)

/-- So are the class features. -/
theorem gather3 (f : FVec Ideal S16x1024 .f32) (r : IVec S32768x1 32) (n : Fin 32768) (k : Fin 1024) (b : Fin 16) (hb : r (ix2 n 0) = BitVec.ofNat 32 b.val) :
    Host.gather gather_S16x1024_S32768x1_S32768x1024_1_0_n_n_0_1_11024 f r (ix2 n k) = f (ix2 b k) :=
  Routing.gather_row gather_S16x1024_S32768x1_S32768x1024_1_0_n_n_0_1_11024 rfl rfl rfl rfl rfl f r n k b hb (by decide)

/-- A sum over the weights' rows, part by part. -/
theorem sum_rows {M : Type*} [AddCommMonoid M] (f : Fin 1280 → M) :
    ∑ i, f i = ∑ k, f (rowA k) + (∑ k, f (rowB k) + ∑ k, f (rowC k)) := by
  rw [show (∑ i, f i) = ∑ i : Fin (128 + (128 + 1024)), f i from rfl, Fin.sum_univ_add, Fin.sum_univ_add]
  refine congrArg₂ (· + ·) rfl (congrArg₂ (· + ·) rfl (Finset.sum_congr rfl fun k _ => congrArg f (Fin.ext ?_)))
  show 128 + (128 + k.val) = 256 + k.val
  omega

/-- The layer on the concatenation is the sum over its three parts. -/
theorem lin_apply (x : FVec Ideal S32768x128 .f32) (f2 : FVec Ideal S16x128 .f32) (f3 : FVec Ideal S16x1024 .f32) (r : IVec S32768x1 32)
    (w1 : FVec Ideal S1280x128 .f32) (b1 : FVec Ideal S128 .f32) (n : Fin 32768) (c : Fin 128) (b : Fin 16) (hb : r (ix2 n 0) = BitVec.ofNat 32 b.val) :
    lin x f2 f3 r w1 b1 (ix2 n c)
      = (∑ k : Fin 128, x (ix2 n k) * w1 (ix2 (rowA k) c)
          + (∑ k : Fin 128, f2 (ix2 b k) * w1 (ix2 (rowB k) c) + ∑ k : Fin 1024, f3 (ix2 b k) * w1 (ix2 (rowC k) c))) + b1 (ix1 c) := by
  pointwise [lin]
  rw [sum_rows]
  refine congrArg (· + b1 (ix1 c)) (congrArg₂ (· + ·) (Finset.sum_congr rfl fun k _ => congrArg (· * w1 (ix2 (rowA k) c)) ?_)
    (congrArg₂ (· + ·) (Finset.sum_congr rfl fun k _ => congrArg (· * w1 (ix2 (rowB k) c)) ?_)
      (Finset.sum_congr rfl fun k _ => congrArg (· * w1 (ix2 (rowC k) c)) ?_)))
  · exact dif_pos k.isLt
  · have hk := k.isLt
    rw [dif_neg (by show ¬ 128 + k.val < 128; omega), dif_pos (by show 128 + k.val - 128 < 128; omega)]
    refine (gather2 f2 r n _ b hb).trans (congrArg (fun k => f2 (ix2 b k)) (Fin.ext ?_))
    show 128 + k.val - 128 = k.val
    omega
  · have hk := k.isLt
    rw [dif_neg (by show ¬ 256 + k.val < 128; omega), dif_neg (by show ¬ 256 + k.val - 128 < 128; omega)]
    refine (gather3 f3 r n _ b hb).trans (congrArg (fun k => f3 (ix2 b k)) (Fin.ext ?_))
    show 256 + k.val - 128 - 128 = k.val
    omega

/-- A column's sum. -/
theorem colSum_apply (h : FVec Ideal S32768x128 .f32) (c : Fin 128) : colSum h (ix1 c) = ∑ n : Fin 32768, h (ix2 n c) := by
  pointwise [colSum]

/-- An element less its column's mean. -/
theorem dev_apply (h : FVec Ideal S32768x128 .f32) (n : Fin 32768) (c : Fin 128) :
    dev h (ix2 n c) = h (ix2 n c) - Ideal.div (∑ n : Fin 32768, h (ix2 n c)) ((32768 : ℝ) : EReal) := by
  pointwise [dev]
  rw [colSum_apply, Cert.Arith.bits_32768]

/-- The same, as the variance computes it. -/
theorem dev'_apply (h : FVec Ideal S32768x128 .f32) (n : Fin 32768) (c : Fin 128) :
    dev' h (ix2 n c) = h (ix2 n c) - Ideal.div (∑ n : Fin 32768, h (ix2 n c)) ((32768 : ℝ) : EReal) := by
  pointwise [dev']
  rw [colSum_apply, Cert.Arith.bits_32768]

/-- The variance divides by the number of tokens. -/
theorem varDen_apply : varDen ix0 = ((32768 : ℝ) : EReal) := by
  pointwise [varDen]
  rw [Cert.Arith.bits_32768, show (FloatOps.sitofp (F := Ideal) FTy.f32 0#32 : EReal) = 0 by
    show (((0#32).toInt : ℝ) : EReal) = 0
    simp]
  exact sub_zero _

/-- A variance from its sum of squares. -/
theorem variance_apply (s : FVec Ideal S128 .f32) (c : Fin 128) : variance s (ix1 c) = Ideal.div (s (ix1 c)) ((32768 : ℝ) : EReal) := by
  pointwise [variance]
  rw [varDen_apply, if_pos (by exact_mod_cast (by norm_num : (0 : ℝ) < 32768))]

/-- The normalised element, with its ReLU. -/
theorem norm_apply (d : FVec Ideal S32768x128 .f32) (v g1 be : FVec Ideal S128 .f32) (n : Fin 32768) (c : Fin 128) :
    norm d v g1 be (ix2 n c)
      = max (Ideal.div (d (ix2 n c)) (Ideal.sqrt (v (ix1 c) + (Cert.Arith.eps : EReal))) * g1 (ix1 c) + be (ix1 c)) 0 := by
  pointwise [norm]
  rw [Cert.Arith.bits_eps]

end Cert.ReferenceIdeal.Hand
end
-- ==== Proof.Value.RefReal.lean ====
/- The reference's result over the real numbers. -/
module

public import proofs.«01_k».proof.Proof.Value.RefRead

@[expose] public section

set_option maxRecDepth 16384

noncomputable section

namespace Cert.ReferenceIdeal.Hand

open Cert.ReferenceIdeal Cert.ReferenceIdeal.Gen Idealize.ShloMosaic Idealize.ShloMosaic.TcCoe
open Cert.Arith

variable (d : Input) {o y : IVec S16 32} {x : FVec Ideal S32768x128 .f32} {w1 : FVec Ideal S1280x128 .f32} {b1 : FVec Ideal S128 .f32}
  {w2 : FVec Ideal S128x128 .f32} {b2 : FVec Ideal S128 .f32} {w3 : FVec Ideal S16x1024 .f32} {b3 : FVec Ideal S1024 .f32}
  {h : FVec Ideal S32768x128 .f32} {g1 be : FVec Ideal S128 .f32}

/-- The mean features are real numbers. -/
theorem meanFeat_real (ho : Ends o) (hx : ∀ n k, x (ix2 n k) = (d.x n k : EReal)) (hw2 : ∀ j k, w2 (ix2 j k) = (d.w2 j k : EReal))
    (hb2 : ∀ k, b2 (ix1 k) = (d.b2 k : EReal)) (r : Fin 16) (k : Fin 128) :
    meanFeat (segSums o x) (counts o) w2 b2 (ix2 r k) = (h2 d r k : EReal) := by
  have hs : ∀ j, segSums o x (ix2 r j) = (sums d r j : EReal) := fun j => by
    rw [segSums_apply ho]
    unfold sums
    rw [coe_sum]
    exact Finset.sum_congr rfl fun q _ => hx _ _
  rw [meanFeat_apply]
  unfold h2
  simp only [hs, counts_apply ho, div_coe _ (by norm_num : (2048 : ℝ) ≠ 0), hw2, hb2, ← EReal.coe_mul, ← coe_sum, ← EReal.coe_add, ← coe_relu]

/-- So are the class features. -/
theorem catFeat_real (hy : ∀ r (j : Fin 16), hot (y (ix1 r)) j.val = d.e r j) (hw3 : ∀ j k, w3 (ix2 j k) = (d.w3 j k : EReal))
    (hb3 : ∀ k, b3 (ix1 k) = (d.b3 k : EReal)) (r : Fin 16) (k : Fin 1024) : catFeat y w3 b3 (ix2 r k) = (h3 d r k : EReal) := by
  rw [catFeat_apply]
  unfold h3
  simp only [hy, hw3, hb3, ← EReal.coe_mul, ← coe_sum, ← EReal.coe_add, ← coe_relu]

/-- What the reference normalises is `pre`. -/
theorem lin_real (ho : Ends o) (hx : ∀ n k, x (ix2 n k) = (d.x n k : EReal)) (hw1 : ∀ i c, w1 (ix2 i c) = (d.w1 i c : EReal))
    (hb1 : ∀ c, b1 (ix1 c) = (d.b1 c : EReal)) (hw2 : ∀ j k, w2 (ix2 j k) = (d.w2 j k : EReal)) (hb2 : ∀ k, b2 (ix1 k) = (d.b2 k : EReal))
    (hy : ∀ r (j : Fin 16), hot (y (ix1 r)) j.val = d.e r j) (hw3 : ∀ j k, w3 (ix2 j k) = (d.w3 j k : EReal))
    (hb3 : ∀ k, b3 (ix1 k) = (d.b3 k : EReal)) (n : Fin 32768) (c : Fin 128) :
    lin x (meanFeat (segSums o x) (counts o) w2 b2) (catFeat y w3 b3) (segRow o) w1 b1 (ix2 n c) = (pre d n c : EReal) := by
  rw [lin_apply _ _ _ _ _ _ n c (seg n) (segRow_apply ho n)]
  simp only [meanFeat_real d ho hx hw2 hb2, catFeat_real d hy hw3 hb3, hx, hw1, hb1, ← EReal.coe_mul, ← coe_sum, ← EReal.coe_add]
  refine congrArg _ ?_
  unfold pre Cert.Arith.lin beta
  ring

/-- The reference's result, from what it normalises. -/
theorem result_real (hh : ∀ n c, h (ix2 n c) = (pre d n c : EReal)) (hg : ∀ c, g1 (ix1 c) = (d.g1 c : EReal)) (n : Fin 32768) (c : Fin 128) :
    result h g1 be (ix2 n c)
      = max ((((pre d n c - mean d c) * (Real.sqrt (var d c + eps))⁻¹ * d.g1 c : ℝ) : EReal) + be (ix1 c)) 0 := by
  have hm : Ideal.div (∑ n : Fin 32768, h (ix2 n c)) ((32768 : ℝ) : EReal) = (mean d c : EReal) := by
    simp only [hh, ← coe_sum, div_coe _ (by norm_num : (32768 : ℝ) ≠ 0)]
    rfl
  have hd : ∀ n, dev h (ix2 n c) = ((pre d n c - mean d c : ℝ) : EReal) := fun n => by
    rw [dev_apply, hm, hh, ← EReal.coe_sub]
  have hd' : ∀ n, dev' h (ix2 n c) = ((pre d n c - mean d c : ℝ) : EReal) := fun n => by
    rw [dev'_apply, hm, hh, ← EReal.coe_sub]
  have hv : variance (colSum (mulf (dev' h) (dev' h))) (ix1 c) = (var d c : EReal) := by
    rw [variance_apply, colSum_apply, Finset.sum_congr rfl fun n _ =>
      show mulf (dev' h) (dev' h) (ix2 n c) = (((pre d n c - mean d c) * (pre d n c - mean d c) : ℝ) : EReal) by
        rw [EReal.coe_mul, ← hd' n]; rfl, ← coe_sum, div_coe _ (by norm_num : (32768 : ℝ) ≠ 0)]
    rfl
  have hp : 0 < var d c + eps := add_pos_of_nonneg_of_pos (var_nonneg d c) eps_pos
  unfold result
  rw [norm_apply, hd, hv, hg, ← EReal.coe_add, sqrt_coe hp, div_coe _ (Real.sqrt_pos.2 hp).ne', ← EReal.coe_mul, div_eq_mul_inv]

end Cert.ReferenceIdeal.Hand
end
-- ==== Proof.Value.Pre.lean ====
/- What the precondition says of the arguments. -/
module

public import proofs.«01_k».proof.Defs
public import proofs.«01_k».proof.Proof.Value.RefRead
public import Idealize.ShloMosaic.Lib.Pointwise

@[expose] public section

set_option maxRecDepth 16384

noncomputable section

namespace Cert.Pre_tame

open Idealize.ShloMosaic

/-- A scalar spreads over each of the shapes. -/
theorem facts : Facts := by constructor <;> decide

variable [Facts]

/-- An element less than infinity in absolute value is a real number. -/
theorem real_of_abs_lt {a : EReal} (h : max a (-a) < ⊤) : a = (a.toReal : EReal) := by
  refine (EReal.coe_toReal ?_ ?_).symm
  · rintro rfl; simp at h
  · rintro rfl; simp at h

/-- The comparison with infinity, at an element. -/
theorem finite_of {S : Shape} (h : S_.BroadcastsInDim S (![] : Fin 0 → Fin S.rank)) (x : FVec Ideal S .f32)
    (hx : cmpf .olt (Host.absf x) (broadcastInDim S ![] h (constant S_ .f32 0x7F800000#32)) = fun _ => 1#1) (i : S.Idx) :
    x i = ((x i).toReal : EReal) := by
  have e := congrFun hx i
  simp only [cmpf, Host.absf, broadcastInDim, constant] at e
  change Ideal.cmp .olt (max (x i) (-(x i))) (Ideal.ofBits .f32 0x7F800000#32) = 1#1 at e
  rw [Cert.Arith.bits_inf] at e
  refine real_of_abs_lt ?_
  by_contra hn
  unfold Ideal.cmp at e
  simp only [decide_eq_false hn] at e
  exact absurd e (by decide)

/-- The comparison with the equal segments' ends. -/
theorem ends_of (h : S_.BroadcastsInDim S16 (![] : Fin 0 → Fin S16.rank)) (o : IVec S16 32)
    (ho : cmpi .eq o (muli (addi (iotaInDim S16 32 0) (broadcastInDim S16 ![] h (constantI S_ 32 1#32))) (broadcastInDim S16 ![] h (constantI S_ 32 2048#32)))
      = fun _ => 1#1) : Cert.ReferenceIdeal.Hand.Ends o := by
  intro k
  have e := congrFun ho (ix1 k)
  simp only [cmpi, muli, addi, iotaInDim, broadcastInDim, constantI] at e
  have hk : ∀ k : Fin 16, (BitVec.ofNat 32 k.val + 1#32) * 2048#32 = BitVec.ofNat 32 ((k.val + 1) * 2048) := by decide
  change IntOp.cmpi .eq (o (ix1 k)) ((BitVec.ofNat 32 k.val + 1#32) * 2048#32) = 1#1 at e
  rw [hk k] at e
  by_contra hn
  change BitVec.ofBool (o (ix1 k) == BitVec.ofNat 32 ((k.val + 1) * 2048)) = 1#1 at e
  rw [show (o (ix1 k) == BitVec.ofNat 32 ((k.val + 1) * 2048)) = false from beq_eq_false_iff_ne.2 hn] at e
  exact absurd e (by decide)

end Cert.Pre_tame

namespace Cert.Proof

open Idealize.ShloMosaic Cert.KernelIdeal

variable [Cert.Pre_tame.Facts] {m : (ℓ : Loc nD τ sig) → Buf (Elt Ideal) ℓ} (h : Cert.Pre_KernelIdeal_tame m) (c : Dev nD)

include h in
/-- Under the precondition the segments are the equal ones and the arrays that enter sums hold real numbers. -/
theorem tame_reads : Cert.ReferenceIdeal.Hand.Ends (m ((c.tc : Thread nD τ).loc main_arg2))
    ∧ (∀ i, m ((c.tc : Thread nD τ).loc main_arg1) i = ((m ((c.tc : Thread nD τ).loc main_arg1) i).toReal : EReal))
    ∧ (∀ i, m ((c.tc : Thread nD τ).loc main_arg4) i = ((m ((c.tc : Thread nD τ).loc main_arg4) i).toReal : EReal))
    ∧ (∀ i, m ((c.tc : Thread nD τ).loc main_arg5) i = ((m ((c.tc : Thread nD τ).loc main_arg5) i).toReal : EReal))
    ∧ (∀ i, m ((c.tc : Thread nD τ).loc main_arg6) i = ((m ((c.tc : Thread nD τ).loc main_arg6) i).toReal : EReal))
    ∧ (∀ i, m ((c.tc : Thread nD τ).loc main_arg8) i = ((m ((c.tc : Thread nD τ).loc main_arg8) i).toReal : EReal))
    ∧ (∀ i, m ((c.tc : Thread nD τ).loc main_arg9) i = ((m ((c.tc : Thread nD τ).loc main_arg9) i).toReal : EReal))
    ∧ (∀ i, m ((c.tc : Thread nD τ).loc main_arg10) i = ((m ((c.tc : Thread nD τ).loc main_arg10) i).toReal : EReal))
    ∧ (∀ i, m ((c.tc : Thread nD τ).loc main_arg11) i = ((m ((c.tc : Thread nD τ).loc main_arg11) i).toReal : EReal)) := by
  obtain ⟨e, h1, h4, h5, h6, h8, h9, h10, h11⟩ := h c
  exact ⟨Cert.Pre_tame.ends_of _ _ e, Cert.Pre_tame.finite_of _ _ h1, Cert.Pre_tame.finite_of _ _ h4, Cert.Pre_tame.finite_of _ _ h5,
    Cert.Pre_tame.finite_of _ _ h6, Cert.Pre_tame.finite_of _ _ h8, Cert.Pre_tame.finite_of _ _ h9, Cert.Pre_tame.finite_of _ _ h10,
    Cert.Pre_tame.finite_of _ _ h11⟩

end Cert.Proof
end
-- ==== Proof.Value.Algebraic.lean ====
/- The kernel and the reference leave the same result over the extended reals. -/
module

public import proofs.«01_k».proof.Defs
public import proofs.«01_k».proof.Proof.Value.KerRead
public import proofs.«01_k».proof.Proof.Value.RefReal
public import proofs.«01_k».proof.Proof.Value.Pre
public import proofs.«01_k».proof.Proof.Gen.ReferenceIdeal.Run
public import Idealize.ShloMosaic.Lib.Claim

@[expose] public section

set_option maxRecDepth 16384

noncomputable section

namespace Cert.Proof

open Idealize.ShloMosaic Idealize.SL.Sem Cert.KernelIdeal
open Cert.Arith (Input hot)

/-- The arguments as real numbers; the class of a segment as its row of zeros and a one. -/
def input (m : (ℓ : Loc nD τ sig) → Buf (Elt Ideal) ℓ) (c : Dev nD) : Input where
  x n k := (m ((c.tc : Thread nD τ).loc main_arg1) (ix2 n k)).toReal
  w1 i k := (m ((c.tc : Thread nD τ).loc main_arg4) (ix2 i k)).toReal
  b1 k := (m ((c.tc : Thread nD τ).loc main_arg5) (ix1 k)).toReal
  g1 k := (m ((c.tc : Thread nD τ).loc main_arg6) (ix1 k)).toReal
  w2 i k := (m ((c.tc : Thread nD τ).loc main_arg8) (ix2 i k)).toReal
  b2 k := (m ((c.tc : Thread nD τ).loc main_arg9) (ix1 k)).toReal
  e r j := hot (m ((c.tc : Thread nD τ).loc main_arg3) (ix1 r)) j.val
  w3 i k := (m ((c.tc : Thread nD τ).loc main_arg10) (ix2 i k)).toReal
  b3 k := (m ((c.tc : Thread nD τ).loc main_arg11) (ix1 k)).toReal

variable [Cert.Pre_tame.Facts] {m : (ℓ : Loc nD τ sig) → Buf (Elt Ideal) ℓ} (hm : Cert.Pre_KernelIdeal_tame m) (c : Dev nD)

include hm in
/-- The kernel reads those numbers. -/
theorem kernel_reads : Hand.Reads (input m c) (fun k => m ((c.tc : Thread nD τ).loc main_arg7) (ix1 k)) (Hand.xs m c) (Hand.ops m c) := by
  obtain ⟨_, h1, h4, h5, h6, h8, h9, h10, h11⟩ := tame_reads hm c
  exact {
    x := fun t j a k h => (Hand.block_read m c t j a k h).trans (h1 _)
    w1 := fun i k => (Hand.ops_w1 m c i k).trans (h4 _)
    b1 := fun k => (Hand.ops_b1 m c k).trans (h5 _)
    w2 := fun i k => (Hand.ops_w2 m c i k).trans (h8 _)
    b2 := fun k => (Hand.ops_b2 m c k).trans (h9 _)
    w3 := fun i k => (Hand.ops_w3 m c i k).trans (h10 _)
    b3 := fun k => (Hand.ops_b3 m c k).trans (h11 _)
    g1 := fun k => (Hand.ops_g1 m c k).trans (h6 _)
    be := fun k => Hand.ops_be m c k
    y := fun r j => congrArg (fun w => hot w j.val) (Hand.ops_y m c r) }

include hm in
/-- The reference's result from the same arguments. -/
theorem reference_reads (n : Fin 32768) (k : Fin 128) :
    Cert.ReferenceIdeal.Hand.result
      (Cert.ReferenceIdeal.Hand.lin (m ((c.tc : Thread nD τ).loc main_arg1))
        (Cert.ReferenceIdeal.Hand.meanFeat (Cert.ReferenceIdeal.Hand.segSums (m ((c.tc : Thread nD τ).loc main_arg2)) (m ((c.tc : Thread nD τ).loc main_arg1)))
          (Cert.ReferenceIdeal.Hand.counts (m ((c.tc : Thread nD τ).loc main_arg2))) (m ((c.tc : Thread nD τ).loc main_arg8)) (m ((c.tc : Thread nD τ).loc main_arg9)))
        (Cert.ReferenceIdeal.Hand.catFeat (m ((c.tc : Thread nD τ).loc main_arg3)) (m ((c.tc : Thread nD τ).loc main_arg10)) (m ((c.tc : Thread nD τ).loc main_arg11)))
        (Cert.ReferenceIdeal.Hand.segRow (m ((c.tc : Thread nD τ).loc main_arg2))) (m ((c.tc : Thread nD τ).loc main_arg4)) (m ((c.tc : Thread nD τ).loc main_arg5)))
      (m ((c.tc : Thread nD τ).loc main_arg6)) (m ((c.tc : Thread nD τ).loc main_arg7)) (ix2 n k)
    = max ((((Cert.Arith.pre (input m c) n k - Cert.Arith.mean (input m c) k) * Hand.fac (input m c) k * (input m c).g1 k : ℝ) : EReal)
        + m ((c.tc : Thread nD τ).loc main_arg7) (ix1 k)) 0 := by
  obtain ⟨ho, h1, h4, h5, h6, h8, h9, h10, h11⟩ := tame_reads hm c
  exact Cert.ReferenceIdeal.Hand.result_real (input m c)
    (Cert.ReferenceIdeal.Hand.lin_real (input m c) ho (fun n k => h1 _) (fun i k => h4 _) (fun k => h5 _) (fun i k => h8 _) (fun k => h9 _)
      (fun r j => rfl) (fun i k => h10 _) (fun k => h11 _)) (fun k => h6 _) n k

include hm in
/-- From the same arguments the kernel's result array is the reference's. -/
theorem same_result {m' : (ℓ : Loc Cert.ReferenceIdeal.nD Cert.ReferenceIdeal.τ Cert.ReferenceIdeal.sig) → Buf (Elt Ideal) ℓ}
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7))
    (e8 : m' ((c.tc : Thread Cert.ReferenceIdeal.nD Cert.ReferenceIdeal.τ).loc Cert.ReferenceIdeal.main_arg8) = m ((c.tc : Thread nD τ).loc main_arg8))
    (e9 : m' ((c.tc : Thread Cert.ReferenceIdeal.nD Cert.ReferenceIdeal.τ).loc Cert.ReferenceIdeal.main_arg9) = m ((c.tc : Thread nD τ).loc main_arg9))
    (e10 : m' ((c.tc : Thread Cert.ReferenceIdeal.nD Cert.ReferenceIdeal.τ).loc Cert.ReferenceIdeal.main_arg10) = m ((c.tc : Thread nD τ).loc main_arg10))
    (e11 : m' ((c.tc : Thread Cert.ReferenceIdeal.nD Cert.ReferenceIdeal.τ).loc Cert.ReferenceIdeal.main_arg11) = m ((c.tc : Thread nD τ).loc main_arg11)) :
    (Hand.dats m 0 c).arrAt 1 cfg0.N = Cert.ReferenceIdeal.Value.res_main_v69 m' c := by
  refine Hand.result_of m c _ fun t ht a k n hn => ?_
  have hv := Hand.coords_val t
  refine (Hand.outBlk_real (kernel_reads hm c) (grid0.coords t) (hv.symm ▸ ht) a n (by rw [hv]; exact hn) k).trans ?_
  rw [Cert.ReferenceIdeal.Hand.result_eq]
  unfold Cert.ReferenceIdeal.Hand.normed
  rw [e1, e2, e3, e4, e5, e6, e7, e8, e9, e10, e11]
  exact (reference_reads hm c n k).symm

end Cert.Proof

namespace Cert.Proof

open Idealize.ShloMosaic Idealize.SL.Sem

/-- Under the precondition the kernel's and the reference's results are the same over the extended reals. -/
theorem value [Cert.Pre_tame.Facts] : Cert.algebraic_KernelIdeal_ReferenceIdeal_pre_tame := by
  intro m ρ m' ρ' hm he
  refine ⟨fun c => (Cert.KernelIdeal.Hand.dats m 0 c).arrAt 1 Cert.KernelIdeal.cfg0.N, ?_, ?_⟩
  · exact (θ_run _ _ _).mono (fun r h c => ⟨Cert.KernelIdeal.Hand.result_at h.1 c, Cert.KernelIdeal.Hand.args_kept h.1 c⟩)
      (Cert.KernelIdeal.Hand.run_main (F := Ideal) m ρ)
  · refine (θ_run _ _ _).mono (fun r h c => ⟨(h c).1.trans ?_, (h c).2⟩) (Cert.ReferenceIdeal.Value.run (F := Ideal) m' ρ')
    obtain ⟨_, e1, e2, e3, e4, e5, e6, e7, e8, e9, e10, e11⟩ := he c
    exact (same_result hm c e1 e2 e3 e4 e5 e6 e7 e8 e9 e10 e11).symm

end Cert.Proof
end
-- ==== Proof.lean ====
/- The certificate: the frames of the kernel, of its ideal program and of the reference, that the ideal program is the
   kernel's own text, and that under the precondition kernel and reference leave the same result over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Claims
public import proofs.«01_k».proof.Proof.Value.Algebraic
public import Idealize.ShloMosaic.Adequacy
public import Idealize.ShloMosaic.Init

@[expose] public section

noncomputable section

namespace Cert.Proof

/-- Everything claimed; the frames need no precondition, so they hold under it. -/
theorem claim : Cert.Claim :=
  haveI := Cert.Pre_tame.facts
  ⟨Cert.Kernel.Gen.facts, Cert.KernelIdeal.Gen.facts, Cert.ReferenceIdeal.Gen.facts, Cert.Pre_tame.facts,
    frame_kernel, frame_ideal, fun m ρ _ => frame_ideal m ρ trivial, frame_reference, fun m ρ _ => frame_reference m ρ trivial,
    trivial, value⟩

end Cert.Proof

end
